-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 128]⟩ ⟨2, ![128, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 256]⟩ ⟨2, ![1024, 256]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 128]⟩ ⟨2, ![256, 1024]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![1024, 256]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![256, 1024]⟩ 1 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![128, 256]⟩ ⟨2, ![1024, 256]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![256, 1024]⟩ 1 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 128]⟩ ⟨2, ![128, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S42x128x128 : Shape := ⟨3, ![42, 128, 128]⟩
abbrev S42 : Shape := ⟨1, ![42]⟩
abbrev S_ : Shape := ⟨0, ![]⟩
abbrev S1 : Shape := ⟨1, ![1]⟩
abbrev S1x128x128 : Shape := ⟨3, ![1, 128, 128]⟩

abbrev nBuf : Space → Nat
  | .hbm => 8
  | .vmem => 11
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S256x128, .f32⟩
  | .hbm, ⟨3, _⟩ => ⟨S128x256, .f32⟩
  | .hbm, ⟨4, _⟩ => ⟨S256x128, .f32⟩
  | .hbm, ⟨5, _⟩ => ⟨S128x256, .f32⟩
  | .hbm, ⟨6, _⟩ => ⟨S256x128, .f32⟩
  | .hbm, ⟨7, _⟩ => ⟨S128x128, .f32⟩
  | .local _ .vmem, ⟨0, _⟩ => ⟨S128x128, .f32⟩
  | .local _ .vmem, ⟨1, _⟩ => ⟨S128x256, .f32⟩
  | .local _ .vmem, ⟨2, _⟩ => ⟨S256x128, .f32⟩
  | .local _ .vmem, ⟨3, _⟩ => ⟨S128x256, .f32⟩
  | .local _ .vmem, ⟨4, _⟩ => ⟨S256x128, .f32⟩
  | .local _ .vmem, ⟨5, _⟩ => ⟨S128x256, .f32⟩
  | .local _ .vmem, ⟨6, _⟩ => ⟨S256x128, .f32⟩
  | .local _ .vmem, ⟨7, _⟩ => ⟨S128x128, .f32⟩
  | .local _ .vmem, ⟨8, _⟩ => ⟨S128x128, .bf16⟩
  | .local _ .vmem, ⟨9, _⟩ => ⟨S128x128, .bf16⟩
  | .local _ .vmem, ⟨10, _⟩ => ⟨S42x128x128, .bf16⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  (ofTc nBuf bufTy 1 92 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.xori v2 c2_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_dev8 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_23 : BitVec 32 := 1#32
  let v28 : BitVec 32 := Scalar.xori v2 c1_i32_23
  let c1_i32_44 : BitVec 32 := 1#32
  let v50 : BitVec 32 := Scalar.muli v28 c1_i32_44
  let v51 : BitVec 32 := Scalar.addi c0_i32_45 v50
  v51.toNat
def k0_dev9 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_24 : BitVec 32 := 3#32
  let v29 : BitVec 32 := Scalar.xori v2 c3_i32_24
  let c1_i32_51 : BitVec 32 := 1#32
  let v58 : BitVec 32 := Scalar.muli v29 c1_i32_51
  let v59 : BitVec 32 := Scalar.addi c0_i32_52 v58
  v59.toNat
def k0_dev10 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_25 : BitVec 32 := 4#32
  let v30 : BitVec 32 := Scalar.xori v2 c4_i32_25
  let c1_i32_58 : BitVec 32 := 1#32
  let v66 : BitVec 32 := Scalar.muli v30 c1_i32_58
  let v67 : BitVec 32 := Scalar.addi c0_i32_59 v66
  v67.toNat
def k0_dev11 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_26 : BitVec 32 := 2#32
  let v31 : BitVec 32 := Scalar.xori v2 c2_i32_26
  let c1_i32_65 : BitVec 32 := 1#32
  let v74 : BitVec 32 := Scalar.muli v31 c1_i32_65
  let v75 : BitVec 32 := Scalar.addi c0_i32_66 v74
  v75.toNat
def k0_dev12 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_27 : BitVec 32 := 5#32
  let v32 : BitVec 32 := Scalar.xori v2 c5_i32_27
  let c1_i32_72 : BitVec 32 := 1#32
  let v82 : BitVec 32 := Scalar.muli v32 c1_i32_72
  let v83 : BitVec 32 := Scalar.addi c0_i32_73 v82
  v83.toNat
def k0_dev13 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_28 : BitVec 32 := 6#32
  let v33 : BitVec 32 := Scalar.xori v2 c6_i32_28
  let c1_i32_79 : BitVec 32 := 1#32
  let v90 : BitVec 32 := Scalar.muli v33 c1_i32_79
  let v91 : BitVec 32 := Scalar.addi c0_i32_80 v90
  v91.toNat
def k0_dev14 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_29 : BitVec 32 := 7#32
  let v34 : BitVec 32 := Scalar.xori v2 c7_i32_29
  let c1_i32_86 : BitVec 32 := 1#32
  let v98 : BitVec 32 := Scalar.muli v34 c1_i32_86
  let v99 : BitVec 32 := Scalar.addi c0_i32_87 v98
  v99.toNat
def k0_dev15 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let v35 : BitVec 32 := Scalar.xori v2 c1_i32_30
  let c1_i32_97 : BitVec 32 := 1#32
  let v114 : BitVec 32 := Scalar.muli v35 c1_i32_97
  let v115 : BitVec 32 := Scalar.addi c0_i32_98 v114
  v115.toNat
def k0_dev16 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_31 : BitVec 32 := 3#32
  let v36 : BitVec 32 := Scalar.xori v2 c3_i32_31
  let c1_i32_103 : BitVec 32 := 1#32
  let v122 : BitVec 32 := Scalar.muli v36 c1_i32_103
  let v123 : BitVec 32 := Scalar.addi c0_i32_104 v122
  v123.toNat
def k0_dev17 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_32 : BitVec 32 := 4#32
  let v37 : BitVec 32 := Scalar.xori v2 c4_i32_32
  let c1_i32_109 : BitVec 32 := 1#32
  let v130 : BitVec 32 := Scalar.muli v37 c1_i32_109
  let v131 : BitVec 32 := Scalar.addi c0_i32_110 v130
  v131.toNat
def k0_dev18 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_33 : BitVec 32 := 2#32
  let v38 : BitVec 32 := Scalar.xori v2 c2_i32_33
  let c1_i32_116 : BitVec 32 := 1#32
  let v138 : BitVec 32 := Scalar.muli v38 c1_i32_116
  let v139 : BitVec 32 := Scalar.addi c0_i32_117 v138
  v139.toNat
def k0_dev19 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_34 : BitVec 32 := 5#32
  let v39 : BitVec 32 := Scalar.xori v2 c5_i32_34
  let c1_i32_122 : BitVec 32 := 1#32
  let v146 : BitVec 32 := Scalar.muli v39 c1_i32_122
  let v147 : BitVec 32 := Scalar.addi c0_i32_123 v146
  v147.toNat
def k0_dev20 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_35 : BitVec 32 := 6#32
  let v40 : BitVec 32 := Scalar.xori v2 c6_i32_35
  let c1_i32_128 : BitVec 32 := 1#32
  let v154 : BitVec 32 := Scalar.muli v40 c1_i32_128
  let v155 : BitVec 32 := Scalar.addi c0_i32_129 v154
  v155.toNat
def k0_dev21 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v41 : BitVec 32 := Scalar.xori v2 c7_i32_36
  let c1_i32_134 : BitVec 32 := 1#32
  let v162 : BitVec 32 := Scalar.muli v41 c1_i32_134
  let v163 : BitVec 32 := Scalar.addi c0_i32_135 v162
  v163.toNat
def k0_dev22 (d0 : Dev nD) : Nat :=
  let c0_i32_383 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_361 : BitVec 32 := 1#32
  let v386 : BitVec 32 := Scalar.xori v2 c1_i32_361
  let c1_i32_382 : BitVec 32 := 1#32
  let v408 : BitVec 32 := Scalar.muli v386 c1_i32_382
  let v409 : BitVec 32 := Scalar.addi c0_i32_383 v408
  v409.toNat
def k0_dev23 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_362 : BitVec 32 := 3#32
  let v387 : BitVec 32 := Scalar.xori v2 c3_i32_362
  let c1_i32_388 : BitVec 32 := 1#32
  let v416 : BitVec 32 := Scalar.muli v387 c1_i32_388
  let v417 : BitVec 32 := Scalar.addi c0_i32_389 v416
  v417.toNat
def k0_dev24 (d0 : Dev nD) : Nat :=
  let c0_i32_395 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_363 : BitVec 32 := 4#32
  let v388 : BitVec 32 := Scalar.xori v2 c4_i32_363
  let c1_i32_394 : BitVec 32 := 1#32
  let v424 : BitVec 32 := Scalar.muli v388 c1_i32_394
  let v425 : BitVec 32 := Scalar.addi c0_i32_395 v424
  v425.toNat
def k0_dev25 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_364 : BitVec 32 := 2#32
  let v389 : BitVec 32 := Scalar.xori v2 c2_i32_364
  let c1_i32_400 : BitVec 32 := 1#32
  let v432 : BitVec 32 := Scalar.muli v389 c1_i32_400
  let v433 : BitVec 32 := Scalar.addi c0_i32_401 v432
  v433.toNat
def k0_dev26 (d0 : Dev nD) : Nat :=
  let c0_i32_407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_365 : BitVec 32 := 5#32
  let v390 : BitVec 32 := Scalar.xori v2 c5_i32_365
  let c1_i32_406 : BitVec 32 := 1#32
  let v440 : BitVec 32 := Scalar.muli v390 c1_i32_406
  let v441 : BitVec 32 := Scalar.addi c0_i32_407 v440
  v441.toNat
def k0_dev27 (d0 : Dev nD) : Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_366 : BitVec 32 := 6#32
  let v391 : BitVec 32 := Scalar.xori v2 c6_i32_366
  let c1_i32_412 : BitVec 32 := 1#32
  let v448 : BitVec 32 := Scalar.muli v391 c1_i32_412
  let v449 : BitVec 32 := Scalar.addi c0_i32_413 v448
  v449.toNat
def k0_dev28 (d0 : Dev nD) : Nat :=
  let c0_i32_419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_367 : BitVec 32 := 7#32
  let v392 : BitVec 32 := Scalar.xori v2 c7_i32_367
  let c1_i32_418 : BitVec 32 := 1#32
  let v456 : BitVec 32 := Scalar.muli v392 c1_i32_418
  let v457 : BitVec 32 := Scalar.addi c0_i32_419 v456
  v457.toNat
def k0_dev29 (d0 : Dev nD) : Nat :=
  let c0_i32_430 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_368 : BitVec 32 := 1#32
  let v393 : BitVec 32 := Scalar.xori v2 c1_i32_368
  let c1_i32_429 : BitVec 32 := 1#32
  let v472 : BitVec 32 := Scalar.muli v393 c1_i32_429
  let v473 : BitVec 32 := Scalar.addi c0_i32_430 v472
  v473.toNat
def k0_dev30 (d0 : Dev nD) : Nat :=
  let c0_i32_436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_369 : BitVec 32 := 3#32
  let v394 : BitVec 32 := Scalar.xori v2 c3_i32_369
  let c1_i32_435 : BitVec 32 := 1#32
  let v480 : BitVec 32 := Scalar.muli v394 c1_i32_435
  let v481 : BitVec 32 := Scalar.addi c0_i32_436 v480
  v481.toNat
def k0_dev31 (d0 : Dev nD) : Nat :=
  let c0_i32_442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_370 : BitVec 32 := 4#32
  let v395 : BitVec 32 := Scalar.xori v2 c4_i32_370
  let c1_i32_441 : BitVec 32 := 1#32
  let v488 : BitVec 32 := Scalar.muli v395 c1_i32_441
  let v489 : BitVec 32 := Scalar.addi c0_i32_442 v488
  v489.toNat
def k0_dev32 (d0 : Dev nD) : Nat :=
  let c0_i32_448 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_371 : BitVec 32 := 2#32
  let v396 : BitVec 32 := Scalar.xori v2 c2_i32_371
  let c1_i32_447 : BitVec 32 := 1#32
  let v496 : BitVec 32 := Scalar.muli v396 c1_i32_447
  let v497 : BitVec 32 := Scalar.addi c0_i32_448 v496
  v497.toNat
def k0_dev33 (d0 : Dev nD) : Nat :=
  let c0_i32_454 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_372 : BitVec 32 := 5#32
  let v397 : BitVec 32 := Scalar.xori v2 c5_i32_372
  let c1_i32_453 : BitVec 32 := 1#32
  let v504 : BitVec 32 := Scalar.muli v397 c1_i32_453
  let v505 : BitVec 32 := Scalar.addi c0_i32_454 v504
  v505.toNat
def k0_dev34 (d0 : Dev nD) : Nat :=
  let c0_i32_460 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_373 : BitVec 32 := 6#32
  let v398 : BitVec 32 := Scalar.xori v2 c6_i32_373
  let c1_i32_459 : BitVec 32 := 1#32
  let v512 : BitVec 32 := Scalar.muli v398 c1_i32_459
  let v513 : BitVec 32 := Scalar.addi c0_i32_460 v512
  v513.toNat
def k0_dev35 (d0 : Dev nD) : Nat :=
  let c0_i32_466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_374 : BitVec 32 := 7#32
  let v399 : BitVec 32 := Scalar.xori v2 c7_i32_374
  let c1_i32_465 : BitVec 32 := 1#32
  let v520 : BitVec 32 := Scalar.muli v399 c1_i32_465
  let v521 : BitVec 32 := Scalar.addi c0_i32_466 v520
  v521.toNat
def k0_dev36 (d0 : Dev nD) : Nat :=
  let c0_i32_713 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_691 : BitVec 32 := 1#32
  let v744 : BitVec 32 := Scalar.xori v2 c1_i32_691
  let c1_i32_712 : BitVec 32 := 1#32
  let v766 : BitVec 32 := Scalar.muli v744 c1_i32_712
  let v767 : BitVec 32 := Scalar.addi c0_i32_713 v766
  v767.toNat
def k0_dev37 (d0 : Dev nD) : Nat :=
  let c0_i32_719 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_692 : BitVec 32 := 3#32
  let v745 : BitVec 32 := Scalar.xori v2 c3_i32_692
  let c1_i32_718 : BitVec 32 := 1#32
  let v774 : BitVec 32 := Scalar.muli v745 c1_i32_718
  let v775 : BitVec 32 := Scalar.addi c0_i32_719 v774
  v775.toNat
def k0_dev38 (d0 : Dev nD) : Nat :=
  let c0_i32_725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_693 : BitVec 32 := 4#32
  let v746 : BitVec 32 := Scalar.xori v2 c4_i32_693
  let c1_i32_724 : BitVec 32 := 1#32
  let v782 : BitVec 32 := Scalar.muli v746 c1_i32_724
  let v783 : BitVec 32 := Scalar.addi c0_i32_725 v782
  v783.toNat
def k0_dev39 (d0 : Dev nD) : Nat :=
  let c0_i32_731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_694 : BitVec 32 := 2#32
  let v747 : BitVec 32 := Scalar.xori v2 c2_i32_694
  let c1_i32_730 : BitVec 32 := 1#32
  let v790 : BitVec 32 := Scalar.muli v747 c1_i32_730
  let v791 : BitVec 32 := Scalar.addi c0_i32_731 v790
  v791.toNat
def k0_dev40 (d0 : Dev nD) : Nat :=
  let c0_i32_737 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_695 : BitVec 32 := 5#32
  let v748 : BitVec 32 := Scalar.xori v2 c5_i32_695
  let c1_i32_736 : BitVec 32 := 1#32
  let v798 : BitVec 32 := Scalar.muli v748 c1_i32_736
  let v799 : BitVec 32 := Scalar.addi c0_i32_737 v798
  v799.toNat
def k0_dev41 (d0 : Dev nD) : Nat :=
  let c0_i32_743 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_696 : BitVec 32 := 6#32
  let v749 : BitVec 32 := Scalar.xori v2 c6_i32_696
  let c1_i32_742 : BitVec 32 := 1#32
  let v806 : BitVec 32 := Scalar.muli v749 c1_i32_742
  let v807 : BitVec 32 := Scalar.addi c0_i32_743 v806
  v807.toNat
def k0_dev42 (d0 : Dev nD) : Nat :=
  let c0_i32_749 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_697 : BitVec 32 := 7#32
  let v750 : BitVec 32 := Scalar.xori v2 c7_i32_697
  let c1_i32_748 : BitVec 32 := 1#32
  let v814 : BitVec 32 := Scalar.muli v750 c1_i32_748
  let v815 : BitVec 32 := Scalar.addi c0_i32_749 v814
  v815.toNat
def k0_dev43 (d0 : Dev nD) : Nat :=
  let c0_i32_760 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_698 : BitVec 32 := 1#32
  let v751 : BitVec 32 := Scalar.xori v2 c1_i32_698
  let c1_i32_759 : BitVec 32 := 1#32
  let v830 : BitVec 32 := Scalar.muli v751 c1_i32_759
  let v831 : BitVec 32 := Scalar.addi c0_i32_760 v830
  v831.toNat
def k0_dev44 (d0 : Dev nD) : Nat :=
  let c0_i32_766 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_699 : BitVec 32 := 3#32
  let v752 : BitVec 32 := Scalar.xori v2 c3_i32_699
  let c1_i32_765 : BitVec 32 := 1#32
  let v838 : BitVec 32 := Scalar.muli v752 c1_i32_765
  let v839 : BitVec 32 := Scalar.addi c0_i32_766 v838
  v839.toNat
def k0_dev45 (d0 : Dev nD) : Nat :=
  let c0_i32_772 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_700 : BitVec 32 := 4#32
  let v753 : BitVec 32 := Scalar.xori v2 c4_i32_700
  let c1_i32_771 : BitVec 32 := 1#32
  let v846 : BitVec 32 := Scalar.muli v753 c1_i32_771
  let v847 : BitVec 32 := Scalar.addi c0_i32_772 v846
  v847.toNat
def k0_dev46 (d0 : Dev nD) : Nat :=
  let c0_i32_778 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_701 : BitVec 32 := 2#32
  let v754 : BitVec 32 := Scalar.xori v2 c2_i32_701
  let c1_i32_777 : BitVec 32 := 1#32
  let v854 : BitVec 32 := Scalar.muli v754 c1_i32_777
  let v855 : BitVec 32 := Scalar.addi c0_i32_778 v854
  v855.toNat
def k0_dev47 (d0 : Dev nD) : Nat :=
  let c0_i32_784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_702 : BitVec 32 := 5#32
  let v755 : BitVec 32 := Scalar.xori v2 c5_i32_702
  let c1_i32_783 : BitVec 32 := 1#32
  let v862 : BitVec 32 := Scalar.muli v755 c1_i32_783
  let v863 : BitVec 32 := Scalar.addi c0_i32_784 v862
  v863.toNat
def k0_dev48 (d0 : Dev nD) : Nat :=
  let c0_i32_790 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_703 : BitVec 32 := 6#32
  let v756 : BitVec 32 := Scalar.xori v2 c6_i32_703
  let c1_i32_789 : BitVec 32 := 1#32
  let v870 : BitVec 32 := Scalar.muli v756 c1_i32_789
  let v871 : BitVec 32 := Scalar.addi c0_i32_790 v870
  v871.toNat
def k0_dev49 (d0 : Dev nD) : Nat :=
  let c0_i32_796 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_704 : BitVec 32 := 7#32
  let v757 : BitVec 32 := Scalar.xori v2 c7_i32_704
  let c1_i32_795 : BitVec 32 := 1#32
  let v878 : BitVec 32 := Scalar.muli v757 c1_i32_795
  let v879 : BitVec 32 := Scalar.addi c0_i32_796 v878
  v879.toNat
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S128x1024 : Shape := ⟨2, ![128, 1024]⟩
abbrev S1024x256 : Shape := ⟨2, ![1024, 256]⟩
abbrev S256x1024 : Shape := ⟨2, ![256, 1024]⟩
abbrev S128x256 : Shape := ⟨2, ![128, 256]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x256, .f32⟩
  | .hbm, ⟨2, _⟩ => ⟨S256x1024, .f32⟩
  | .hbm, ⟨3, _⟩ => ⟨S1024x256, .f32⟩
  | .hbm, ⟨4, _⟩ => ⟨S256x1024, .f32⟩
  | .hbm, ⟨5, _⟩ => ⟨S1024x256, .f32⟩
  | .hbm, ⟨6, _⟩ => ⟨S256x1024, .f32⟩
  | .hbm, ⟨7, _⟩ => ⟨S128x256, .f32⟩
  | .hbm, ⟨8, _⟩ => ⟨S_, .f32⟩
  | .hbm, ⟨9, _⟩ => ⟨S128x256, .f32⟩
  | .hbm, ⟨10, _⟩ => ⟨S128x256, .f32⟩
  | .hbm, ⟨11, _⟩ => ⟨S128x1024, .f32⟩
  | .hbm, ⟨12, _⟩ => ⟨S128x256, .f32⟩
  | .hbm, ⟨13, _⟩ => ⟨S_, .f32⟩
  | .hbm, ⟨14, _⟩ => ⟨S128x256, .f32⟩
  | .hbm, ⟨15, _⟩ => ⟨S128x256, .f32⟩
  | .hbm, ⟨16, _⟩ => ⟨S128x1024, .f32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Text.lean ====
/-
The kernel's text, folded: the printed body (2355 statements in 39 pieces) is, by unfolding alone,
seven barrier signals, one barrier wait, three LAYERS and a store — a layer being two chunks of
seven sends each and two chunks of seven waits each. Everything after this module reasons about
the folded text, with the round `q` (layer and chunk) and the partner mask `j` as variables.
-/
module

public import proofs.«01_k».proof.Proof.Gen.KernelIdeal
public import proofs.«01_k».proof.Proof.Gen.KernelIdeal.Skeleton

@[expose] public section

set_option maxRecDepth 16384

noncomputable section

namespace Cert.Mlp

open Cert.KernelIdeal Cert.KernelIdeal.Gen
open Idealize.ShloMosaic Idealize.ShloMosaic.TcCoe
open Idealize.SL Idealize.SL.Sem

variable {F : FTy → Type} [FloatOps F]

/-- Programs of the TensorCore kernel. -/
abbrev TP (F : FTy → Type) [FloatOps F] (α : Type) := Prog (TpuEff nD τ sig (Elt F) Λ₀ .tc) α

/-! ## Slots -/

/-- The slot of round `q` (layer `q / 2`, chunk `q % 2`) and partner mask `j + 1`. -/
abbrev slotNo (q : Fin 6) (j : Fin 7) : ℕ := q.val * 7 + j.val
theorem slotNo_lt (q : Fin 6) (j : Fin 7) : slotNo q j < 42 := by have := q.isLt; have := j.isLt; unfold slotNo; omega

/-- The order in which a device visits its seven partners: masks 1, 3, 4, 2, 5, 6, 7. -/
def order : List (Fin 7) := [0, 2, 3, 1, 4, 5, 6]

theorem inb_sem (q : Fin 6) (j : Fin 7) : ∀ a, (![slotNo q j] : Fin 1 → Nat) a + S1.size a ≤ S42.size a := by
  revert q j; decide
theorem inb_slot (q : Fin 6) (j : Fin 7) : ∀ a, (![slotNo q j, 0, 0] : Fin 3 → Nat) a + S1x128x128.size a ≤ S42x128x128.size a := by
  revert q j; decide
abbrev slotRect (q : Fin 6) (j : Fin 7) : Rect S42x128x128 := Rect.unit (s := S42x128x128) ![slotNo q j, 0, 0] S1x128x128.size (inb_slot q j)
theorem words_slot (q : Fin 6) (j : Fin 7) : (slotRect q j).WholeWords (EltTy.packing .bf16) := by
  revert q j; decide

abbrev semAt (a : DmaSems sig S42) (q : Fin 6) (j : Fin 7) : DmaSem sig :=
  ((a.slice (Rect.unit (s := S42) ![slotNo q j] S1.size (inb_sem q j))).squeeze S_ squeezes_S1_S_).sem
abbrev slotIn (r : Memref sig .tc .vmem S42x128x128 .bf16) (q : Fin 6) (j : Fin 7) : Memref sig .tc .vmem S128x128 .bf16 :=
  (r.slice (slotRect q j) (fun _ => rfl)).squeeze S128x128 squeezes_S1x128x128_S128x128

/-- The device that the printed text names in the send of a slot. -/
def sendDev : ℕ → Dev nD → Dev nD
  | 0 => fun c => ⟨k0_dev8 c, k0_dev8_lt c⟩
  | 1 => fun c => ⟨k0_dev11 c, k0_dev11_lt c⟩
  | 2 => fun c => ⟨k0_dev9 c, k0_dev9_lt c⟩
  | 3 => fun c => ⟨k0_dev10 c, k0_dev10_lt c⟩
  | 4 => fun c => ⟨k0_dev12 c, k0_dev12_lt c⟩
  | 5 => fun c => ⟨k0_dev13 c, k0_dev13_lt c⟩
  | 6 => fun c => ⟨k0_dev14 c, k0_dev14_lt c⟩
  | 7 => fun c => ⟨k0_dev15 c, k0_dev15_lt c⟩
  | 8 => fun c => ⟨k0_dev18 c, k0_dev18_lt c⟩
  | 9 => fun c => ⟨k0_dev16 c, k0_dev16_lt c⟩
  | 10 => fun c => ⟨k0_dev17 c, k0_dev17_lt c⟩
  | 11 => fun c => ⟨k0_dev19 c, k0_dev19_lt c⟩
  | 12 => fun c => ⟨k0_dev20 c, k0_dev20_lt c⟩
  | 13 => fun c => ⟨k0_dev21 c, k0_dev21_lt c⟩
  | 14 => fun c => ⟨k0_dev22 c, k0_dev22_lt c⟩
  | 15 => fun c => ⟨k0_dev25 c, k0_dev25_lt c⟩
  | 16 => fun c => ⟨k0_dev23 c, k0_dev23_lt c⟩
  | 17 => fun c => ⟨k0_dev24 c, k0_dev24_lt c⟩
  | 18 => fun c => ⟨k0_dev26 c, k0_dev26_lt c⟩
  | 19 => fun c => ⟨k0_dev27 c, k0_dev27_lt c⟩
  | 20 => fun c => ⟨k0_dev28 c, k0_dev28_lt c⟩
  | 21 => fun c => ⟨k0_dev29 c, k0_dev29_lt c⟩
  | 22 => fun c => ⟨k0_dev32 c, k0_dev32_lt c⟩
  | 23 => fun c => ⟨k0_dev30 c, k0_dev30_lt c⟩
  | 24 => fun c => ⟨k0_dev31 c, k0_dev31_lt c⟩
  | 25 => fun c => ⟨k0_dev33 c, k0_dev33_lt c⟩
  | 26 => fun c => ⟨k0_dev34 c, k0_dev34_lt c⟩
  | 27 => fun c => ⟨k0_dev35 c, k0_dev35_lt c⟩
  | 28 => fun c => ⟨k0_dev36 c, k0_dev36_lt c⟩
  | 29 => fun c => ⟨k0_dev39 c, k0_dev39_lt c⟩
  | 30 => fun c => ⟨k0_dev37 c, k0_dev37_lt c⟩
  | 31 => fun c => ⟨k0_dev38 c, k0_dev38_lt c⟩
  | 32 => fun c => ⟨k0_dev40 c, k0_dev40_lt c⟩
  | 33 => fun c => ⟨k0_dev41 c, k0_dev41_lt c⟩
  | 34 => fun c => ⟨k0_dev42 c, k0_dev42_lt c⟩
  | 35 => fun c => ⟨k0_dev43 c, k0_dev43_lt c⟩
  | 36 => fun c => ⟨k0_dev46 c, k0_dev46_lt c⟩
  | 37 => fun c => ⟨k0_dev44 c, k0_dev44_lt c⟩
  | 38 => fun c => ⟨k0_dev45 c, k0_dev45_lt c⟩
  | 39 => fun c => ⟨k0_dev47 c, k0_dev47_lt c⟩
  | 40 => fun c => ⟨k0_dev48 c, k0_dev48_lt c⟩
  | _ => fun c => ⟨k0_dev49 c, k0_dev49_lt c⟩

/-- The device that the printed text names in the signal to a partner mask. -/
def sigDev : ℕ → Dev nD → Dev nD
  | 0 => fun c => ⟨k0_dev1 c, k0_dev1_lt c⟩
  | 2 => fun c => ⟨k0_dev2 c, k0_dev2_lt c⟩
  | 3 => fun c => ⟨k0_dev3 c, k0_dev3_lt c⟩
  | 1 => fun c => ⟨k0_dev4 c, k0_dev4_lt c⟩
  | 4 => fun c => ⟨k0_dev5 c, k0_dev5_lt c⟩
  | 5 => fun c => ⟨k0_dev6 c, k0_dev6_lt c⟩
  | _ => fun c => ⟨k0_dev7 c, k0_dev7_lt c⟩

/-! ## The values -/

/-- A layer's partial product, rounded: what a chunk sends to every partner. -/
def accV (x : FVec F S128x128 .bf16) (w : Vec F S128x128 .f32) : FVec F S128x128 .bf16 := k0_pay16 x w
/-- The running sum with one more partner's partial product. -/
def addV (tot : FVec F S128x128 .f32) (r : Vec F S1x128x128 .bf16) : FVec F S128x128 .f32 := k0_pay7 tot r
/-- The hidden values' product with a half of the second weight. -/
def outV (tot : FVec F S128x128 .f32) (w : Vec F S128x128 .f32) : FVec F S128x128 .f32 := k0_pay34 tot (Scalar.ofBits .f32 0x00000000#32) w
/-- The next layer's activations: the two halves' products added. -/
def sumV (a b : FVec F S128x128 .f32) : FVec F S128x128 .f32 := addf a b
/-- The activations rounded for the next product. -/
def rndV (y : FVec F S128x128 .f32) : FVec F S128x128 .bf16 := truncf .bf16 y bitsLt_bf16_f32

/-! ## The steps -/

abbrev rAll : Rect S128x128 := Rect.unit (s := S128x128) ![0, 0] S128x128.size inb_S128x128_S128x128_0_0

abbrev loadAll {e : EltTy} (m : Memref sig .tc .vmem S128x128 e) : TP F (Vec F S128x128 e) :=
  Prog.lift (.load m rAll.toLoadRect (View.loadsAt_vmem h_S128x128))

abbrev loadWin (m : Memref sig .tc .vmem S128x256 .f32) (o : ℕ) (h : ∀ a, (![0, o] : Fin 2 → Nat) a + S128x128.size a ≤ S128x256.size a) :
    TP F (Vec F S128x128 .f32) :=
  Prog.lift (.load m (Rect.unit (s := S128x256) ![0, o] S128x128.size h).toLoadRect (View.loadsAt_vmem h_S128x128))

abbrev loadWout (m : Memref sig .tc .vmem S256x128 .f32) (o : ℕ) (h : ∀ a, (![o, 0] : Fin 2 → Nat) a + S128x128.size a ≤ S256x128.size a) :
    TP F (Vec F S128x128 .f32) :=
  Prog.lift (.load m (Rect.unit (s := S256x128) ![o, 0] S128x128.size h).toLoadRect (View.loadsAt_vmem h_S128x128))

abbrev storeAcc (m : Memref sig .tc .vmem S128x128 .bf16) (hm : m.IsWhole) (v : FVec F S128x128 .bf16) : TP F PUnit :=
  Prog.lift (.store m rAll v Finset.univ
    (View.stores_vmem h_S128x128 (hm.storeExact_slice rfl _ packedbf16_S128x128_S128x128_0_0) (fun _ => rfl)) (.inl rfl))

/-- One send: the accumulator to the partner's slot. -/
abbrev send (acc : Memref sig .tc .vmem S128x128 .bf16) (hacc : acc.IsWhole) (r : Memref sig .tc .vmem S42x128x128 .bf16) (hr : r.IsWhole)
    (ss rs : DmaSems sig S42) (c : Dev nD) (q : Fin 6) (j : Fin 7) : TP F PUnit :=
  Prog.lift (.enqueueDma acc (.remote (Dev.tc (sendDev (slotNo q j) c)) (slotIn r q j) (.dma (semAt ss q j))) (.dma (semAt rs q j))
    hacc.wordExact ((hr.wordExact_slice rfl _ (words_slot q j)).reshape _ _) ⟨⟨rfl, Or.inl rfl⟩, trivial⟩)

abbrev waitSend (acc : Memref sig .tc .vmem S128x128 .bf16) (hacc : acc.IsWhole) (r : Memref sig .tc .vmem S42x128x128 .bf16) (hr : r.IsWhole)
    (ss : DmaSems sig S42) (q : Fin 6) (j : Fin 7) : TP F PUnit :=
  Prog.lift (.waitDma2 (semAt ss q j) (slotIn r q j) acc ((hr.wordExact_slice rfl _ (words_slot q j)).reshape _ _) hacc.wordExact)

abbrev waitRecv (acc : Memref sig .tc .vmem S128x128 .bf16) (hacc : acc.IsWhole) (r : Memref sig .tc .vmem S42x128x128 .bf16) (hr : r.IsWhole)
    (rs : DmaSems sig S42) (q : Fin 6) (j : Fin 7) : TP F PUnit :=
  Prog.lift (.waitDma2 (semAt rs q j) acc (slotIn r q j) hacc.wordExact ((hr.wordExact_slice rfl _ (words_slot q j)).reshape _ _))

abbrev loadSlot (r : Memref sig .tc .vmem S42x128x128 .bf16) (q : Fin 6) (j : Fin 7) : TP F (Vec F S1x128x128 .bf16) :=
  Prog.lift (.load r (slotRect q j).toLoadRect (View.loadsAt_vmem h_S1x128x128))

/-- The sends of a chunk to the listed partners, in order. -/
def sends (acc : Memref sig .tc .vmem S128x128 .bf16) (hacc : acc.IsWhole) (r : Memref sig .tc .vmem S42x128x128 .bf16) (hr : r.IsWhole)
    (ss rs : DmaSems sig S42) (c : Dev nD) (q : Fin 6) : List (Fin 7) → TP F PUnit
  | [] => pure ⟨⟩
  | j :: js => do
    send acc hacc r hr ss rs c q j
    sends acc hacc r hr ss rs c q js

/-- The waits of a chunk for the listed partners, in order, adding each partner's block. -/
def waits (acc : Memref sig .tc .vmem S128x128 .bf16) (hacc : acc.IsWhole) (r : Memref sig .tc .vmem S42x128x128 .bf16) (hr : r.IsWhole)
    (ss rs : DmaSems sig S42) (q : Fin 6) : List (Fin 7) → FVec F S128x128 .f32 → TP F (FVec F S128x128 .f32)
  | [], tot => pure tot
  | j :: js, tot => do
    waitSend acc hacc r hr ss q j
    waitRecv acc hacc r hr rs q j
    let b ← loadSlot r q j
    waits acc hacc r hr ss rs q js (addV tot b)

/-- The signals to the listed partners' barriers. -/
def signals (c : Dev nD) : List (Fin 7) → TP F PUnit
  | [] => pure ⟨⟩
  | j :: js => do
    semSignalWord (sigDev j.val c) (SemArray.scalar (sig.barrier 0 rfl) : Sems sig S_).sem 1#32
    signals c js

/-- The chunks of layer `l`. -/
abbrev rd (l : Fin 3) (h : Fin 2) : Fin 6 := ⟨l.val * 2 + h.val, by have := l.isLt; have := h.isLt; omega⟩

/-- One layer: both chunks' products stored and sent, then both chunks' blocks collected. -/
def layer (a0 : Memref sig .tc .vmem S128x128 .bf16) (h0 : a0.IsWhole) (a1 : Memref sig .tc .vmem S128x128 .bf16) (h1 : a1.IsWhole)
    (r : Memref sig .tc .vmem S42x128x128 .bf16) (hr : r.IsWhole) (ss rs : DmaSems sig S42) (c : Dev nD) (l : Fin 3)
    (wi : Memref sig .tc .vmem S128x256 .f32) (wo : Memref sig .tc .vmem S256x128 .f32) (x : FVec F S128x128 .bf16) :
    TP F (FVec F S128x128 .f32) := do
  let w0 ← loadWin wi 0 inb_S128x256_S128x128_0_0
  let _ ← loadAll a0
  storeAcc a0 h0 (accV x w0)
  sends a0 h0 r hr ss rs c (rd l 0) order
  let w1 ← loadWin wi 128 inb_S128x256_S128x128_0_128
  let _ ← loadAll a1
  storeAcc a1 h1 (accV x w1)
  sends a1 h1 r hr ss rs c (rd l 1) order
  let t0 ← loadAll a0
  let s0 ← waits a0 h0 r hr ss rs (rd l 0) order (k0_pay5 t0)
  let o0 ← loadWout wo 0 inb_S256x128_S128x128_0_0
  let t1 ← loadAll a1
  let s1 ← waits a1 h1 r hr ss rs (rd l 1) order (k0_pay5 t1)
  let o1 ← loadWout wo 128 inb_S256x128_S128x128_128_0
  pure (sumV (outV s0 o0) (outV s1 o1))

/-- The body, folded. -/
def body (arg0 : Memref sig .tc .vmem S128x128 .f32) (arg1 : Memref sig .tc .vmem S128x256 .f32) (arg2 : Memref sig .tc .vmem S256x128 .f32)
    (arg3 : Memref sig .tc .vmem S128x256 .f32) (arg4 : Memref sig .tc .vmem S256x128 .f32)
    (arg5 : Memref sig .tc .vmem S128x256 .f32) (arg6 : Memref sig .tc .vmem S256x128 .f32) (arg7 : Memref sig .tc .vmem S128x128 .f32)
    (a0 : Memref sig .tc .vmem S128x128 .bf16) (h0 : a0.IsWhole) (a1 : Memref sig .tc .vmem S128x128 .bf16) (h1 : a1.IsWhole)
    (r : Memref sig .tc .vmem S42x128x128 .bf16) (hr : r.IsWhole) (ss rs : DmaSems sig S42) : TP F PUnit := do
  let c ← (Prog.lift .deviceId : TP F (Dev nD))
  signals c order
  semWaitWord (SemArray.scalar (sig.barrier 0 rfl) : Sems sig S_).sem 7#32
  let x ← loadAll arg0
  let y0 ← layer a0 h0 a1 h1 r hr ss rs c 0 arg1 arg2 (k0_pay2 x)
  let y1 ← layer a0 h0 a1 h1 r hr ss rs c 1 arg3 arg4 (rndV y0)
  let y2 ← layer a0 h0 a1 h1 r hr ss rs c 2 arg5 arg6 (rndV y1)
  let _ ← loadAll arg7
  Prog.lift (.store arg7 rAll y2 Finset.univ (View.stores_vmem_bits_univ h_S128x128 rfl) (.inl rfl))

set_option maxRecDepth 200000 in
set_option maxHeartbeats 4000000 in
/-- The printed body is the folded one: by definitional unfolding. -/
theorem cc0_body_eq (arg0 : Memref sig .tc .vmem S128x128 .f32) (harg0 : arg0.IsWhole) (arg1 : Memref sig .tc .vmem S128x256 .f32) (harg1 : arg1.IsWhole) (arg2 : Memref sig .tc .vmem S256x128 .f32) (harg2 : arg2.IsWhole) (arg3 : Memref sig .tc .vmem S128x256 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S256x128 .f32) (harg6 : arg6.IsWhole) (arg7 : Memref sig .tc .vmem S128x128 .f32) (harg7 : arg7.IsWhole) (arg8 : Memref sig .tc .vmem S128x128 .bf16) (harg8 : arg8.IsWhole) (arg9 : Memref sig .tc .vmem S128x128 .bf16) (harg9 : arg9.IsWhole) (arg10 : Memref sig .tc .vmem S42x128x128 .bf16) (harg10 : arg10.IsWhole) (arg11 : DmaSems sig S42) (arg12 : DmaSems sig S42) :
    cc0_body (F := F) arg0 harg0 arg1 harg1 arg2 harg2 arg3 harg3 arg4 harg4 arg5 harg5 arg6 harg6 arg7 harg7 arg8 harg8 arg9 harg9 arg10 harg10 arg11 arg12
      = body arg0 arg1 arg2 arg3 arg4 arg5 arg6 arg7 arg8 harg8 arg9 harg9 arg10 harg10 arg11 arg12 := by
  rw [cc0_body_eq_skeleton]
  rfl

end Cert.Mlp

end
-- ==== Proof.Protocol.lean ====
/-
The protocol of the exchange: the partners, the semaphore cells, what each cell's landing hands over, who owes
what, and the levels that make every wait safe.

A device `c` talks to its seven PARTNERS `peer j c = c xor (j + 1)`. At entry it signals each partner's barrier cell
and waits for seven units on its own: partner `j`'s unit hands `c` that partner's six landing slots for mask `j`
(one per round). In round `q` it sends its accumulator to every partner: the send cell `(q, j)` returns the lent
share of the accumulator, the partner's receive cell `(q, j)` hands the partner its slot holding the block.
Duty names are `Fin 7`: the barrier cell has one duty per partner, a send or receive cell the duty `0`.
-/
module

public import proofs.«01_k».proof.Proof.Text
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.ShareLeaves
public import Idealize.ShloMosaic.Lib.Tactic

@[expose] public section

set_option maxRecDepth 16384

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

/-! ## The resource algebra: the pipeline's copy and the exchange's -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Separating conjunctions over a list -/

/-- `Φ a ∗ Φ b ∗ … ∗ emp` over the elements of a list. -/
def lsep {α : Type} : List α → (α → sProp 𝕄) → sProp 𝕄
  | [], _ => iprop(emp)
  | a :: l, Φ => iprop(Φ a ∗ lsep l Φ)

omit [FloatOps F] in
theorem lsep_eq {α : Type} (Φ : α → sProp 𝕄) : ∀ l : List α, lsep l Φ = bigSepL l Φ
  | [] => rfl
  | [a] => equiv_iff.mp BI.sep_emp
  | a :: b :: l => by rw [bigSepL_cons_cons, ← lsep_eq Φ (b :: l)]; rfl

omit [FloatOps F] in
/-- A family over all seven masks, visited in the kernel's order. -/
theorem lsep_order (Φ : Fin 7 → sProp 𝕄) : bigSep Finset.univ Φ = lsep order Φ := by
  rw [lsep_eq]; exact bigSep_univ_eq_bigSepL order (by decide) (by decide) Φ

omit [FloatOps F] in
theorem lsep_mono {α : Type} {Φ Ψ : α → sProp 𝕄} (h : ∀ a, Φ a ⊢ Ψ a) : ∀ l : List α, lsep l Φ ⊢ lsep l Ψ
  | [] => BI.Entails.refl _
  | a :: l => BI.sep_mono (h a) (lsep_mono h l)

omit [FloatOps F] in
theorem lsep_sep {α : Type} (Φ Ψ : α → sProp 𝕄) : ∀ l : List α, lsep l (fun a => iprop(Φ a ∗ Ψ a)) = iprop(lsep l Φ ∗ lsep l Ψ)
  | [] => (equiv_iff.mp BI.sep_emp).symm
  | a :: l => by
    show iprop((Φ a ∗ Ψ a) ∗ lsep l (fun a => iprop(Φ a ∗ Ψ a))) = iprop((Φ a ∗ lsep l Φ) ∗ (Ψ a ∗ lsep l Ψ))
    rw [lsep_sep Φ Ψ l]
    have h1 : iprop((Φ a ∗ Ψ a) ∗ lsep l Φ ∗ lsep l Ψ) ⊢ iprop((Φ a ∗ lsep l Φ) ∗ (Ψ a ∗ lsep l Ψ)) := by
      iintro ⟨⟨H1, H2⟩, H3, H4⟩; isplitl [H1 H3]
      · isplitl [H1] <;> iassumption
      · isplitl [H2] <;> iassumption
    have h2 : iprop((Φ a ∗ lsep l Φ) ∗ (Ψ a ∗ lsep l Ψ)) ⊢ iprop((Φ a ∗ Ψ a) ∗ lsep l Φ ∗ lsep l Ψ) := by
      iintro ⟨⟨H1, H3⟩, H2, H4⟩; isplitl [H1 H2]
      · isplitl [H1] <;> iassumption
      · isplitl [H3] <;> iassumption
    exact BI.Entails.antisymm h1 h2

/-! ## Partners -/

/-- The partner at mask `j + 1`: the device number with those bits flipped. -/
def peer (j : Fin 7) (c : Dev nD) : Dev nD := ⟨c.val ^^^ (j.val + 1), by revert c; revert j; decide⟩

theorem peer_peer (j : Fin 7) (c : Dev nD) : peer j (peer j c) = c := by revert c; revert j; decide
theorem peer_inj (j : Fin 7) : Function.Injective (peer j) := fun a b h => by rw [← peer_peer j a, h, peer_peer]

set_option maxHeartbeats 2000000 in
/-- The printed chains of a send name the partner. -/
theorem sendDev_eq (q : Fin 6) (j : Fin 7) (c : Dev nD) : sendDev (slotNo q j) c = peer j c := by
  revert c; revert j; revert q; decide +kernel
theorem sigDev_eq (j : Fin 7) (c : Dev nD) : sigDev j.val c = peer j c := by
  revert c; revert j; decide +kernel

/-! ## Memrefs and cells -/

abbrev rM : Memref sig .tc .vmem S42x128x128 .bf16 := Memref.whole cc0_scratch2
abbrev slot (q : Fin 6) (j : Fin 7) : Memref sig .tc .vmem S128x128 .bf16 := slotIn rM q j

/-- The accumulator of a chunk. -/
def accM (h : Fin 2) : Memref sig .tc .vmem S128x128 .bf16 := match h with
  | 0 => Memref.whole cc0_scratch0
  | 1 => Memref.whole cc0_scratch1

abbrev barS : Sem sig := (SemArray.scalar (sig.barrier 0 rfl) : Sems sig S_).sem
abbrev ssem (q : Fin 6) (j : Fin 7) : DmaSem sig := semAt cc0_scratch3 q j
abbrev rsem (q : Fin 6) (j : Fin 7) : DmaSem sig := semAt cc0_scratch4 q j

theorem ssem_val (q : Fin 6) (j : Fin 7) : (ssem q j).val = 8 + slotNo q j := by revert j; revert q; decide +kernel
theorem rsem_val (q : Fin 6) (j : Fin 7) : (rsem q j).val = 50 + slotNo q j := by revert j; revert q; decide +kernel

/-- A device's cells: its barrier; its send (`false`) and receive (`true`) cells. -/
abbrev CI : Type := Option (Bool × Fin 6 × Fin 7)
def csem : CI → SemLoc sig
  | none => .reg barS
  | some (false, q, j) => .dma (ssem q j)
  | some (true, q, j) => .dma (rsem q j)

abbrev cell (c : Dev nD) (k : CI) : GSem nD τ sig := ((c : Thread nD τ), csem k)
abbrev barCell (c : Dev nD) : GSem nD τ sig := ((c : Thread nD τ), .reg barS)
abbrev sendCell (c : Dev nD) (q : Fin 6) (j : Fin 7) : GSem nD τ sig := ((c : Thread nD τ), .dma (ssem q j))
abbrev recvCell (c : Dev nD) (q : Fin 6) (j : Fin 7) : GSem nD τ sig := ((c : Thread nD τ), .dma (rsem q j))

/-- The round and mask of a slot number. -/
def qOf (n : ℕ) : Fin 6 := ⟨n / 7 % 6, Nat.mod_lt _ (by decide)⟩
def jOf (n : ℕ) : Fin 7 := ⟨n % 7, Nat.mod_lt _ (by decide)⟩
theorem qOf_slot (q : Fin 6) (j : Fin 7) : qOf (slotNo q j) = q := by revert j; revert q; decide
theorem jOf_slot (q : Fin 6) (j : Fin 7) : jOf (slotNo q j) = j := by revert j; revert q; decide

theorem csem_injective : Function.Injective csem := by
  have key : ∀ q j q' j', slotNo q j = slotNo q' j' → q = q' ∧ j = j' := fun q j q' j' h =>
    ⟨by rw [← qOf_slot q j, h, qOf_slot], by rw [← jOf_slot q j, h, jOf_slot]⟩
  intro a b h
  rcases a with _ | ⟨_ | _, q, j⟩ <;> rcases b with _ | ⟨_ | _, q', j'⟩
  · rfl
  · cases h
  · cases h
  · cases h
  · have h := congrArg Fin.val (SemLoc.dma.inj h); rw [ssem_val, ssem_val] at h
    obtain ⟨rfl, rfl⟩ := key q j q' j' (by omega); rfl
  · have h := congrArg Fin.val (SemLoc.dma.inj h); rw [ssem_val, rsem_val] at h
    have := slotNo_lt q j; omega
  · cases h
  · have h := congrArg Fin.val (SemLoc.dma.inj h); rw [ssem_val, rsem_val] at h
    have := slotNo_lt q' j'; omega
  · have h := congrArg Fin.val (SemLoc.dma.inj h); rw [rsem_val, rsem_val] at h
    obtain ⟨rfl, rfl⟩ := key q j q' j' (by omega); rfl

theorem cell_injective : Function.Injective (fun p : Dev nD × CI => cell p.1 p.2) := by
  rintro ⟨c, k⟩ ⟨c', k'⟩ h
  have h1 : c = c' := congrArg (fun g : GSem nD τ sig => g.1.1) h
  have h2 : k = k' := csem_injective (congrArg Prod.snd h)
  rw [h1, h2]

abbrev N : ℕ := (slot 0 0).view.dmaCredit
theorem N_pos : 0 < N := View.dmaCredit_pos _ (by decide)

/-! ## The values -/

/-- Device `c`'s block of the activations, staged. -/
def xB (c : Dev nD) : Vec F S128x128 .f32 := (win0_0.blk (0 : Fin 1)).view.read (Elt F) (m ((c : Thread nD τ).loc main_arg0))
/-- Device `c`'s block of layer `l`'s first weight, staged. -/
def wiB (l : Fin 3) (c : Dev nD) : Vec F S128x256 .f32 := match l with
  | 0 => (win0_1.blk (0 : Fin 1)).view.read (Elt F) (m ((c : Thread nD τ).loc main_arg1))
  | 1 => (win0_3.blk (0 : Fin 1)).view.read (Elt F) (m ((c : Thread nD τ).loc main_arg3))
  | 2 => (win0_5.blk (0 : Fin 1)).view.read (Elt F) (m ((c : Thread nD τ).loc main_arg5))
/-- Device `c`'s block of layer `l`'s second weight, staged. -/
def woB (l : Fin 3) (c : Dev nD) : Vec F S256x128 .f32 := match l with
  | 0 => (win0_2.blk (0 : Fin 1)).view.read (Elt F) (m ((c : Thread nD τ).loc main_arg2))
  | 1 => (win0_4.blk (0 : Fin 1)).view.read (Elt F) (m ((c : Thread nD τ).loc main_arg4))
  | 2 => (win0_6.blk (0 : Fin 1)).view.read (Elt F) (m ((c : Thread nD τ).loc main_arg6))

abbrev rWi (h : Fin 2) : Rect S128x256 := match h with
  | 0 => Rect.unit (s := S128x256) ![0, 0] S128x128.size inb_S128x256_S128x128_0_0
  | 1 => Rect.unit (s := S128x256) ![0, 128] S128x128.size inb_S128x256_S128x128_0_128
abbrev rWo (h : Fin 2) : Rect S256x128 := match h with
  | 0 => Rect.unit (s := S256x128) ![0, 0] S128x128.size inb_S256x128_S128x128_0_0
  | 1 => Rect.unit (s := S256x128) ![128, 0] S128x128.size inb_S256x128_S128x128_128_0

/-- The half of a weight block that a chunk reads. -/
def wiH (l : Fin 3) (h : Fin 2) (c : Dev nD) : Vec F S128x128 .f32 := match h with
  | 0 => (fun i => wiB m l c ((rWi 0).toLoadRect.idx i))
  | 1 => (fun i => wiB m l c ((rWi 1).toLoadRect.idx i))
def woH (l : Fin 3) (h : Fin 2) (c : Dev nD) : Vec F S128x128 .f32 := match h with
  | 0 => (fun i => woB m l c ((rWo 0).toLoadRect.idx i))
  | 1 => (fun i => woB m l c ((rWo 1).toLoadRect.idx i))

/-- The running sum with one more partner's block. -/
def addA (t : FVec F S128x128 .f32) (A : FVec F S128x128 .bf16) : FVec F S128x128 .f32 := addf t (extf .f32 A bitsLt_bf16_f32)

/-- From every device's activations `X`: device `c`'s partial product of a chunk, -/
def part (X : Dev nD → FVec F S128x128 .bf16) (l : Fin 3) (h : Fin 2) (c : Dev nD) : FVec F S128x128 .bf16 := accV (X c) (wiH m l h c)
/-- the eight devices' partial products added, in the order device `c` adds them, -/
def tot (X : Dev nD → FVec F S128x128 .bf16) (l : Fin 3) (h : Fin 2) (c : Dev nD) : FVec F S128x128 .f32 :=
  order.foldl (fun t j => addA t (part m X l h (peer j c))) (k0_pay5 (part m X l h c))
/-- and the layer's output on device `c`. -/
def lay (X : Dev nD → FVec F S128x128 .bf16) (l : Fin 3) (c : Dev nD) : FVec F S128x128 .f32 :=
  sumV (outV (tot m X l 0 c) (woH m l 0 c)) (outV (tot m X l 1 c) (woH m l 1 c))

/-- The activations entering each layer. -/
def X0 (c : Dev nD) : FVec F S128x128 .bf16 := k0_pay2 (xB m c)
def X1 (c : Dev nD) : FVec F S128x128 .bf16 := rndV (lay m (X0 m) 0 c)
def X2 (c : Dev nD) : FVec F S128x128 .bf16 := rndV (lay m (X1 m) 1 c)
def Xs (l : Fin 3) : Dev nD → FVec F S128x128 .bf16 := match l with | 0 => X0 m | 1 => X1 m | 2 => X2 m
/-- The kernel's result on device `c`. -/
def outAt (c : Dev nD) : FVec F S128x128 .f32 := lay m (X2 m) 2 c

/-- The layer and the chunk of a round. -/
def lq (q : Fin 6) : Fin 3 := ⟨q.val / 2, by omega⟩
def hq (q : Fin 6) : Fin 2 := ⟨q.val % 2, by omega⟩
theorem lq_rd (l : Fin 3) (h : Fin 2) : lq (rd l h) = l := by revert h; revert l; decide
theorem hq_rd (l : Fin 3) (h : Fin 2) : hq (rd l h) = h := by revert h; revert l; decide

/-- What device `c` sends in round `q`. -/
def blk (q : Fin 6) (c : Dev nD) : FVec F S128x128 .bf16 := part m (Xs m (lq q)) (lq q) (hq q) c
theorem blk_rd (l : Fin 3) (h : Fin 2) (c : Dev nD) : blk m (rd l h) c = part m (Xs m l) l h c := by unfold blk; rw [lq_rd, hq_rd]

/-! ## Contents -/

/-- The elements of a memref on device `c`, at share `p`, reading `A`. -/
def pts (M : Memref sig .tc .vmem S128x128 .bf16) (c : Dev nD) (p : PosShare TreeShare) (A : Vec F S128x128 .bf16) : sProp 𝕄 :=
  M.view.loc (c : Thread nD τ) ↦[M.view.set]{p} M.view.write (Elt F) (m (M.view.loc (c : Thread nD τ))) A Finset.univ
/-- The elements of a memref on device `c`, whole, reading anything. -/
def free (M : Memref sig .tc .vmem S128x128 .bf16) (c : Dev nD) : sProp 𝕄 :=
  iprop(∃ f : Buf (Elt F) (M.view.loc (c : Thread nD τ)), M.view.loc (c : Thread nD τ) ↦[M.view.set]{fullShare} f)

instance pts_storable (M c p) (A : Vec F S128x128 .bf16) : BI.Storable (upEmb : UEmb _ 𝕄) (pts m M c p A) := by unfold pts; infer_instance
omit [FloatOps F] in
instance free_storable (M c) : BI.Storable (upEmb : UEmb _ 𝕄) (free (F := F) M c) := by unfold free; infer_instance

/-- Any contents reading `A` will do. -/
theorem pts_of (M : Memref sig .tc .vmem S128x128 .bf16) (c : Dev nD) (p : PosShare TreeShare) (A : Vec F S128x128 .bf16)
    (f : Buf (Elt F) (M.view.loc (c : Thread nD τ))) (h : M.view.read (Elt F) f = A) :
    (M.view.loc (c : Thread nD τ) ↦[M.view.set]{p} f : sProp 𝕄) = pts m M c p A := by
  unfold pts
  refine pointsTo_congr fun i hi => ?_
  obtain ⟨x, -, rfl⟩ := Finset.mem_map.mp hi
  rw [View.write_emb_of_mem _ _ (Finset.mem_univ x), ← h]
  unfold View.read
  rw [cast_cast, cast_eq]

theorem pts_free (M : Memref sig .tc .vmem S128x128 .bf16) (c : Dev nD) (A : Vec F S128x128 .bf16) : pts m M c fullShare A ⊢ free M c := by
  unfold pts free; iintro H; iexists _; iexact H

/-- The share lent to the transfer at mask `j + 1`, and the one kept. -/
abbrev lent (j : Fin 7) : PosShare TreeShare := leaf 3 fullShare ⟨j.val + 1, by have := j.isLt; omega⟩
abbrev kept : PosShare TreeShare := leaf 3 fullShare ⟨0, by decide⟩

/-- The whole is the share kept and the seven lent. -/
theorem pts_split (M : Memref sig .tc .vmem S128x128 .bf16) (c : Dev nD) (A : Vec F S128x128 .bf16) :
    pts m M c fullShare A = iprop(pts m M c kept A ∗ lsep order fun j => pts m M c (lent j) A) := by
  rw [← lsep_order]
  unfold pts
  rw [ShareLeaves.pointsTo_leaves _ _ 3 fullShare]
  rw [bigSep_univ_eq_bigSepL ([0, 1, 2, 3, 4, 5, 6, 7] : List (Fin (2 ^ 3))) (by decide) (by decide),
    bigSep_univ_eq_bigSepL ([0, 1, 2, 3, 4, 5, 6] : List (Fin 7)) (by decide) (by decide)]
  rfl

/-! ## The schedule -/

/-- What partner `j`'s signal hands `c`: that partner's landing slots for mask `j`, one per round. -/
def barPay (c : Dev nD) (j : Fin 7) : sProp 𝕄 := bigSep Finset.univ fun q : Fin 6 => free (slot q j) (peer j c)
def recvPay (c : Dev nD) (q : Fin 6) (j : Fin 7) : sProp 𝕄 := pts m (slot q j) c fullShare (blk m q (peer j c))
def sendPay (c : Dev nD) (q : Fin 6) (j : Fin 7) : sProp 𝕄 := pts m (accM (hq q)) c (lent j) (blk m q c)

def xRd : Rounds.Schedule (GSem nD τ sig) (Fin 7) 𝕄 where
  duties g r := if r = 0 ∧ g.1.2 = .tc then (match g.2 with
    | .reg s => if s = barS then Finset.univ else ∅
    | .dma s => if 8 ≤ s.val then {0} else ∅) else ∅
  unitless _ := False
  amount g _ _ := match g.2 with
    | .reg _ => 1
    | .dma _ => N
  payload g _ d := match g.2 with
    | .reg _ => barPay g.1.1 d
    | .dma s => if 50 ≤ s.val then recvPay m g.1.1 (qOf (s.val - 50)) (jOf (s.val - 50)) else sendPay m g.1.1 (qOf (s.val - 8)) (jOf (s.val - 8))
  amount_pos g _ _ _ := by
    rcases g with ⟨_, s | s⟩
    · exact Nat.one_pos
    · exact N_pos

instance xRd_payload_storable (g : GSem nD τ sig) (r : ℕ) (d : Fin 7) :
    BI.Storable (upEmb : UEmb _ 𝕄) ((xRd (F := F) m).payload g r d) := by
  rcases g with ⟨t, s | s⟩
  · show BI.Storable upEmb (barPay t.1 d)
    unfold barPay; infer_instance
  · show BI.Storable upEmb (if 50 ≤ s.val then recvPay m t.1 (qOf (s.val - 50)) (jOf (s.val - 50)) else sendPay m t.1 (qOf (s.val - 8)) (jOf (s.val - 8)))
    unfold recvPay sendPay
    split <;> infer_instance

section Sched
variable (c : Dev nD) (q : Fin 6) (j : Fin 7)

theorem duties_bar : (xRd (F := F) m).duties (barCell c) 0 = Finset.univ := by
  dsimp only [xRd]; rw [if_pos ⟨rfl, rfl⟩]; exact if_pos rfl
theorem duties_send : (xRd (F := F) m).duties (sendCell c q j) 0 = {0} := by
  dsimp only [xRd]; rw [if_pos ⟨rfl, rfl⟩]; exact if_pos (by rw [ssem_val]; omega)
theorem duties_recv : (xRd (F := F) m).duties (recvCell c q j) 0 = {0} := by
  dsimp only [xRd]; rw [if_pos ⟨rfl, rfl⟩]; exact if_pos (by rw [rsem_val]; omega)
theorem duties_later (g : GSem nD τ sig) : ∀ r, 1 ≤ r → (xRd (F := F) m).duties g r = ∅ :=
  fun r hr => by dsimp only [xRd]; rw [if_neg fun h => by omega]

theorem amount_bar (d : Fin 7) : (xRd (F := F) m).amount (barCell c) 0 d = 1 := rfl
theorem amount_send (d : Fin 7) : (xRd (F := F) m).amount (sendCell c q j) 0 d = N := rfl
theorem amount_recv (d : Fin 7) : (xRd (F := F) m).amount (recvCell c q j) 0 d = N := rfl

theorem expect_bar : (xRd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (xRd (F := F) m).expect (sendCell c q j) 0 = N := by
  unfold Schedule.expect Schedule.amountOf; rw [duties_send, Finset.sum_singleton, amount_send]
theorem expect_recv : (xRd (F := F) m).expect (recvCell c q j) 0 = N := by
  unfold Schedule.expect Schedule.amountOf; rw [duties_recv, Finset.sum_singleton, amount_recv]

theorem payload_bar (d : Fin 7) : (xRd (F := F) m).payload (barCell c) 0 d = barPay c d := rfl
theorem payload_send (d : Fin 7) : (xRd (F := F) m).payload (sendCell c q j) 0 d = sendPay m c q j := by
  dsimp only [xRd]
  have h := slotNo_lt q j
  rw [if_neg (by rw [ssem_val]; omega), ssem_val, Nat.add_sub_cancel_left, qOf_slot, jOf_slot]
theorem payload_recv (d : Fin 7) : (xRd (F := F) m).payload (recvCell c q j) 0 d = recvPay m c q j := by
  dsimp only [xRd]
  rw [if_pos (by rw [rsem_val]; omega), rsem_val, Nat.add_sub_cancel_left, qOf_slot, jOf_slot]

theorem rest_bar : bigSep ((xRd (F := F) m).duties (barCell c) 0 \ ∅) (fun d => (xRd (F := F) m).payload (barCell c) 0 d)
    = bigSep Finset.univ fun j => barPay c j := by
  rw [Finset.sdiff_empty, duties_bar]; rfl
theorem rest_send : bigSep ((xRd (F := F) m).duties (sendCell c q j) 0 \ ∅) (fun d => (xRd (F := F) m).payload (sendCell c q j) 0 d) = sendPay m c q j := by
  rw [Finset.sdiff_empty, duties_send, bigSep_singleton, payload_send]
theorem rest_recv : bigSep ((xRd (F := F) m).duties (recvCell c q j) 0 \ ∅) (fun d => (xRd (F := F) m).payload (recvCell c q j) 0 d) = recvPay m c q j := by
  rw [Finset.sdiff_empty, duties_recv, bigSep_singleton, payload_recv]

end Sched

/-! ## What each device owes at launch; the levels -/

/-- One unit for each listed partner's barrier. -/
def oSig (c : Dev nD) : List (Fin 7) → CellTallies nD τ sig Unit
  | [] => 0
  | j :: js => oSig c js + tallyAt (barCell (peer j c)) () 1
/-- One block's credit for each listed partner's receive cell of round `q`. -/
def oRound (c : Dev nD) (q : Fin 6) : List (Fin 7) → CellTallies nD τ sig Unit
  | [] => 0
  | j :: js => oRound c q js + tallyAt (recvCell (peer j c) q j) () N
/-- The layer before which `n + 1` layers remain. -/
def lay3 (n : ℕ) : Fin 3 := ⟨2 - n, by omega⟩
/-- The sends of the last `n` layers. -/
def oFrom (c : Dev nD) : ℕ → CellTallies nD τ sig Unit
  | 0 => 0
  | n + 1 => (oFrom c n + oRound c (rd (lay3 n) 1) order) + oRound c (rd (lay3 n) 0) order
/-- What device `c` owes at launch. -/
def O₀ (c : Dev nD) : CellTallies nD τ sig Unit := oFrom c 3 + oSig c order

def L (g : GSem nD τ sig) : Finset Unit := if g.1.2 = .tc then {()} else ∅
/-- Barrier cells at 1, a receive cell of layer `l` at `2 + l`, everything else (staging, send) at 0. -/
def lv (g : GSem nD τ sig) (_ : Unit) : ℕ := match g.2 with
  | .reg _ => 1
  | .dma s => if 50 ≤ s.val then 2 + (lq (qOf (s.val - 50))).val else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (q : Fin 6) (j : Fin 7) : lv (recvCell c q j) () = 2 + (lq q).val := by
  dsimp only [lv]; rw [if_pos (by rw [rsem_val]; omega), rsem_val, Nat.add_sub_cancel_left, qOf_slot]
theorem lv_send (c : Dev nD) (q : Fin 6) (j : Fin 7) : lv (sendCell c q j) () = 0 := by
  have := slotNo_lt q j
  dsimp only [lv]; rw [if_neg (by rw [ssem_val]; omega)]
theorem lv_bar (c : Dev nD) : lv (barCell c) () = 1 := rfl
theorem lv_stage (c : Dev nD) (s : DmaSem sig) (h : s.val < 8) : lv ((c : Thread nD τ), .dma s) () = 0 := by
  dsimp only [lv]; rw [if_neg (by omega)]

/-- Everything owed sits above level `n`, on a TensorCore's cell. -/
def Above (n : ℕ) (O : CellTallies nD τ sig Unit) : Prop := ∀ g i, 0 < O g i → i ∈ L g ∧ n < lv g i

theorem above_zero (n : ℕ) : Above n 0 := fun g i h => absurd h (by simp)
theorem above_add {n : ℕ} {O₁ O₂ : CellTallies nD τ sig Unit} (h₁ : Above n O₁) (h₂ : Above n O₂) : Above n (O₁ + O₂) := fun g i h => by
  rw [Pi.add_apply, Finsupp.add_apply] at h
  rcases Nat.eq_zero_or_pos (O₁ g i) with h0 | h0
  · exact h₂ g i (by omega)
  · exact h₁ g i h0
theorem above_tally {n : ℕ} (c : Dev nD) (sm : SemLoc sig) (k : ℕ) (h : n < lv ((c : Thread nD τ), sm) ()) :
    Above n (tallyAt ((c : Thread nD τ), sm) () k) := fun g i hg => by
  rw [tallyAt_apply] at hg
  by_cases h' : g = ((c : Thread nD τ), sm) ∧ i = ()
  · obtain ⟨rfl, rfl⟩ := h'; exact ⟨by rw [L_tc]; exact Finset.mem_singleton_self _, h⟩
  · rw [if_neg h'] at hg; exact absurd hg (Nat.lt_irrefl 0)
theorem above_mono {n k : ℕ} (h : n ≤ k) {O : CellTallies nD τ sig Unit} (hO : Above k O) : Above n O :=
  fun g i hg => ⟨(hO g i hg).1, Nat.lt_of_le_of_lt h (hO g i hg).2⟩
theorem above_sig (c : Dev nD) : ∀ js, Above 0 (oSig c js)
  | [] => above_zero 0
  | j :: js => above_add (above_sig c js) (above_tally _ _ _ (by rw [lv_bar]; decide))
theorem above_round {n : ℕ} (c : Dev nD) (q : Fin 6) (h : n < 2 + (lq q).val) : ∀ js, Above n (oRound c q js)
  | [] => above_zero n
  | j :: js => above_add (above_round c q h js) (above_tally _ _ _ (by rw [lv_recv]; exact h))
theorem above_from (c : Dev nD) : ∀ n, n ≤ 3 → Above (4 - n) (oFrom c n)
  | 0, _ => above_zero 4
  | n + 1, h => by
    have hl : ∀ k : Fin 2, 4 - (n + 1) < 2 + (lq (rd (lay3 n) k)).val := fun k => by rw [lq_rd]; show 4 - (n + 1) < 2 + (2 - n); omega
    exact above_add (above_add (above_mono (by omega) (above_from c n (by omega))) (above_round c _ (hl 1) _)) (above_round c _ (hl 0) _)
theorem above_O₀ (c : Dev nD) : Above 0 (O₀ c) := above_add (above_mono (by decide) (above_from c 3 (by decide))) (above_sig c order)

omit [FloatOps F] in
/-- A wait on a cell at level `n` is safe while everything owed is above `n`. -/
theorem mayWait {n : ℕ} (c : Dev nD) (sm : SemLoc sig) (hn : lv ((c : Thread nD τ), sm) () = n) {O : CellTallies nD τ sig Unit} (hO : Above n O) :
    (levAts L lv : sProp 𝕄) ⊢ MayWait (c : Thread nD τ) sm () O :=
  Pipeline.mayWait_of_levAts (by rw [L_tc]; exact Finset.mem_singleton_self _) fun g i hg => ⟨(hO g i hg).1, by rw [hn]; exact (hO g i hg).2⟩

end Cert.Mlp

end
-- ==== Proof.Exec.lean ====
/-
The kernel's steps, executed: the barrier signals, a chunk's sends, a chunk's waits — each by induction over the
list of partners still to visit — and a layer.
-/
module

public import proofs.«01_k».proof.Proof.Protocol

@[expose] public section

set_option maxRecDepth 16384

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Every cell of every device: its invariant, and that its round 0 has been reached. -/
def recs (K : Dev nD × CI → ℕ) : sProp 𝕄 :=
  bigSep Finset.univ fun p : Dev nD × CI => iprop(cellInv ER (xRd m) (K p) (cell p.1 p.2) ∗ reached ER (cell p.1 p.2) 0)

instance recs_persistent (K : Dev nD × CI → ℕ) : BI.Persistent (recs m K) := by unfold recs; infer_instance

theorem recs_at (K : Dev nD × CI → ℕ) (c : Dev nD) (k : CI) :
    recs m K ⊢ iprop(cellInv ER (xRd m) (K (c, k)) (cell c k) ∗ reached ER (cell c k) 0) := by
  unfold recs
  exact bigSep_elim (Φ := fun p : Dev nD × CI => iprop(cellInv ER (xRd m) (K p) (cell p.1 p.2) ∗ reached ER (cell p.1 p.2) 0)) (Finset.mem_univ (c, k))

/-- The device owes `O`, whatever it has waited for. -/
abbrev owesU (c : Dev nD) (O : CellTallies nD τ sig Unit) : sProp 𝕄 := iprop(∃ W, owes (c : Thread nD τ) O W)

section Steps

variable (K : Dev nD × CI → ℕ) (c : Dev nD)

/-! ## The barrier -/

/-- The signals to the listed partners: each hands over this device's landing slots for the mask. -/
theorem wp_signals {α : Type} {Q : α → sProp 𝕄} (O : CellTallies nD τ sig Unit) : ∀ (js : List (Fin 7)) (k : PUnit → TP F α),
    iprop(recs m K ∗ (lsep js fun j => iprop(dutyTok ER (barCell (peer j c)) 0 j ∗ bigSep Finset.univ fun q : Fin 6 => free (slot q j) c))
        ∗ owesU c (O + oSig c js))
      ⊢ iprop((owesU c O -∗ wp frame (wpE (defs₀ (F := F)) 𝒱₀ (c : Thread nD τ) none) Set.univ (k ⟨⟩) Q)
          -∗ wp frame (wpE (defs₀ (F := F)) 𝒱₀ (c : Thread nD τ) none) Set.univ (signals c js >>= k) Q)
  | [], k => by
    unfold signals
    simp only [Prog.pure_eq_ret, Prog.bind_ret, oSig, add_zero]
    iintro ⟨-, -, HO⟩ Hk
    iapply Hk $$ HO
  | j :: js, k => by
    unfold signals
    simp only [semSignalWord, Prog.lift, Prog.bind_op, Prog.bind_ret, Prog.bind_assoc, lsep, sigDev_eq]
    iintro ⟨#HR, ⟨⟨Htok, Hpay⟩, Hrest⟩, ⟨%W, HO⟩⟩ Hk
    ihave HRj := (recs_at m K (peer j c) none) $$ HR
    icases HRj with ⟨#HI, #Hr⟩
    iapply (Rounds.wp_signal 𝒱₀ ER (xRd m) (c : Thread nD τ) none (dst := (peer j c : Thread nD τ)) (κ := K (peer j c, none))
        (d := j) (by rw [duties_bar]; exact Finset.mem_univ _) ((amount_bar m (peer j c) j).trans (by decide)) () (O + oSig c js)
        (add_assoc O (oSig c js) (tallyAt (barCell (peer j c)) () 1)).symm)
      $$ [HO Htok Hpay]
    · isplitr; · iexact HI
      isplitl [HO]; · iexact HO
      isplitl [Htok]; · iexact Htok
      isplitl [Hpay]
      · rw [payload_bar]; unfold barPay; rw [peer_peer]; iexact Hpay
      · iexact Hr
    iintro HO
    iapply (wp_signals O js k) $$ [Hrest HO]
    · isplitr; · iexact HR
      isplitl [Hrest]; · iexact Hrest
      iexists W; iexact HO
    iexact Hk

/-! ## The sends of a chunk -/

/-- One send, addressed to `n = peer j c`. -/
theorem wp_send1 (q : Fin 6) (j : Fin 7) (n : Dev nD) (hn : n = peer j c) (M : Memref sig .tc .vmem S128x128 .bf16) (hM : accM (hq q) = M)
    {hsc : (slot q j : Memref sig (Dev.tc n : Thread nD τ).2.kind .vmem S128x128 .bf16).view.ref.isScScratch = false}
    {hsrc : M.view.WordExact} {hdst : (slot q j).view.WordExact}
    {hsem : DmaTarget.Typed .vmem (.dma (rsem q j)) (.remote (Dev.tc n : Thread nD τ) (slot q j : Memref sig .tc .vmem S128x128 .bf16) (.dma (ssem q j)) hsc)}
    {α : Type} {Q : α → sProp 𝕄} {k : PUnit → TP F α} (O O' : CellTallies nD τ sig Unit)
    (hO : O' = O + tallyAt (recvCell (peer j c) q j) () N) (W : Waits sig Unit) :
    iprop(recs m K ∗ pts m M c (lent j) (blk m q c) ∗ free (slot q j) (peer j c) ∗ owes (c : Thread nD τ) O' W
        ∗ dutyTok ER (sendCell c q j) 0 0 ∗ dutyTok ER (recvCell (peer j c) q j) 0 0)
      ⊢ iprop(((cred (tallyAt (sendCell c q j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc n : Thread nD τ) (slot q j) (.dma (ssem q j)) hsc) (.dma (rsem q j)) hsrc hdst hsem) k) Q) := by
  subst hn hM
  unfold free
  iintro ⟨#HR, Hsrc, ⟨%fd, Hdst⟩, HO, HtS, HtR⟩
  ihave HRs := (recs_at m K c (some (false, q, j))) $$ HR
  icases HRs with ⟨#HIs, #Hrs⟩
  ihave HRr := (recs_at m K (peer j c) (some (true, q, j))) $$ HR
  icases HRr with ⟨#HIr, #Hrr⟩
  unfold pts
  iapply (Rounds.wp_send_pointsTo 𝒱₀ ER (xRd m) (c : Thread nD τ) none (κ₁ := K (c, some (false, q, j))) (κ₂ := K (peer j c, some (true, q, j)))
    (r₁ := 0) (r₂ := 0) (d₁ := 0) (d₂ := 0) (fd := fd)
    (by rw [duties_send]; exact Finset.mem_singleton_self _) (by rw [duties_recv]; exact Finset.mem_singleton_self _)
    () () N rfl (amount_send m c q j 0) (amount_recv m (peer j c) q j 0) O hO (W := W)
    (by rw [payload_send]; exact BI.Entails.refl _)
    (by
      rw [payload_recv]; unfold recvPay
      rw [peer_peer]
      refine Entails.of_eq (pts_of m (slot q j) (peer j c) fullShare _ _ ?_)
      rw [View.read_write_univ, View.read_write_univ]))
  isplitr; · iexact HIs
  isplitr; · iexact HIr
  isplitl [Hsrc]; · iexact Hsrc
  isplitl [Hdst]; · iexact Hdst
  isplitl [HO]; · iexact HO
  isplitl [HtS]; · iexact HtS
  isplitr; · iexact Hrs
  isplitl [HtR]; · iexact HtR
  iexact Hrr

/-- What a send takes. -/
def sendPre (M : Memref sig .tc .vmem S128x128 .bf16) (q : Fin 6) (j : Fin 7) : sProp 𝕄 :=
  iprop(pts m M c (lent j) (blk m q c) ∗ free (slot q j) (peer j c) ∗ dutyTok ER (sendCell c q j) 0 0 ∗ dutyTok ER (recvCell (peer j c) q j) 0 0)

theorem wp_sends {α : Type} {Q : α → sProp 𝕄} (q : Fin 6) (M : Memref sig .tc .vmem S128x128 .bf16) (hM : accM (hq q) = M) (hw : M.IsWhole) (hr : rM.IsWhole)
    (O : CellTallies nD τ sig Unit) : ∀ (js : List (Fin 7)) (k : PUnit → TP F α),
    iprop(recs m K ∗ (lsep js fun j => sendPre m c M q j) ∗ owesU c (O + oRound c q js))
      ⊢ iprop((((lsep js fun j => cred (tallyAt (sendCell c q j) () N)) ∗ owesU c O) -∗ wp frame (wpE (defs₀ (F := F)) 𝒱₀ (c : Thread nD τ) none) Set.univ (k ⟨⟩) Q)
          -∗ wp frame (wpE (defs₀ (F := F)) 𝒱₀ (c : Thread nD τ) none) Set.univ (sends M hw rM hr cc0_scratch3 cc0_scratch4 c q js >>= k) Q)
  | [], k => by
    unfold sends
    simp only [Prog.pure_eq_ret, Prog.bind_ret, oRound, add_zero, lsep]
    iintro ⟨-, -, HO⟩ Hk
    iapply Hk
    isplitr; · iempintro
    iexact HO
  | j :: js, k => by
    unfold sends
    simp only [send, Prog.lift, Prog.bind_op, Prog.bind_ret, Prog.bind_assoc, lsep, sendPre]
    iintro ⟨#HR, ⟨⟨Hsrc, Hdst, HtS, HtR⟩, Hrest⟩, ⟨%W, HO⟩⟩ Hk
    iapply (wp_send1 m K c q j _ (sendDev_eq q j c) M hM (O + oRound c q js) _ (add_assoc O (oRound c q js) (tallyAt (recvCell (peer j c) q j) () N)).symm W) $$ [Hsrc Hdst HtS HtR HO]
    · isplitr; · iexact HR
      isplitl [Hsrc]; · iexact Hsrc
      isplitl [Hdst]; · iexact Hdst
      isplitl [HO]; · iexact HO
      isplitl [HtS]; · iexact HtS
      iexact HtR
    iintro ⟨Hc, HO⟩
    iapply (wp_sends q M hM hw hr O js k) $$ [Hrest HO]
    · isplitr; · iexact HR
      isplitl [Hrest]; · iexact Hrest
      iexists W; iexact HO
    iintro ⟨Hcs, HO⟩
    iapply Hk
    isplitl [Hc Hcs]
    · isplitl [Hc]; · iexact Hc
      iexact Hcs
    iexact HO

/-! ## The waits of a chunk -/

/-- What a pair of waits takes -/
def waitPre (q : Fin 6) (j : Fin 7) : sProp 𝕄 :=
  iprop(cred (tallyAt (sendCell c q j) () N) ∗ cred (tallyAt (recvCell c q j) () N) ∗ atPos ER (sendCell c q j) 0 ∅ 0 ∗ atPos ER (recvCell c q j) 0 ∅ 0)
/-- and gives. -/
def waitPost (M : Memref sig .tc .vmem S128x128 .bf16) (q : Fin 6) (j : Fin 7) : sProp 𝕄 :=
  iprop(pts m M c (lent j) (blk m q c) ∗ free (slot q j) c ∗ semVal (sendCell c q j) 0 ∗ semVal (recvCell c q j) 0)

/-- A load of a landed slot reads the block, in the slot's shape. -/
theorem slot_load (q : Fin 6) (j : Fin 7) (A : Vec F S128x128 .bf16) (t : FVec F S128x128 .f32) :
    addV t (rM.view.readAt (Elt F) (slotRect q j).toLoadRect ((slot q j).view.write (Elt F) (m ((slot q j).view.loc (c : Thread nD τ))) A Finset.univ)) = addA t A := by
  have h := (Memref.read_squeeze_slice (Val := Elt F) rM (slotRect q j) (fun _ => rfl) squeezes_S1x128x128_S128x128 shapeCasts_S1x128x128_S128x128
    ((slot q j).view.write (Elt F) (m ((slot q j).view.loc (c : Thread nD τ))) A Finset.univ)).symm
  have h2 : (slot q j).view.read (Elt F) ((slot q j).view.write (Elt F) (m ((slot q j).view.loc (c : Thread nD τ))) A Finset.univ) = A :=
    View.read_write_univ ..
  unfold addV k0_pay7 addA
  dsimp only
  rw [h]
  exact congrArg (fun B => addf t (extf .f32 B bitsLt_bf16_f32)) h2

theorem slot_set (q : Fin 6) (j : Fin 7) : rM.view.setOn (slotRect q j).toLoadRect.set ⊆ (slot q j).view.set := by
  rw [show (slot q j).view.set = (rM.slice (slotRect q j) (fun _ => rfl)).view.set from Memref.set_view_squeeze _ squeezes_S1x128x128_S128x128]
  show _ ⊆ (rM.view.slice (slotRect q j)).set
  rw [View.set_slice]; exact subset_rfl

theorem wp_waits {α : Type} {Q : α → sProp 𝕄} (q : Fin 6) (M : Memref sig .tc .vmem S128x128 .bf16) (hM : accM (hq q) = M) (hw : M.IsWhole) (hr : rM.IsWhole)
    (O : CellTallies nD τ sig Unit) (hO : Above (2 + (lq q).val) O) : ∀ (js : List (Fin 7)) (t : FVec F S128x128 .f32) (k : FVec F S128x128 .f32 → TP F α),
    iprop(recs m K ∗ levAts L lv ∗ (lsep js fun j => waitPre c q j) ∗ owesU c O)
      ⊢ iprop((((lsep js fun j => waitPost m c M q j) ∗ owesU c O)
            -∗ wp frame (wpE (defs₀ (F := F)) 𝒱₀ (c : Thread nD τ) none) Set.univ (k (js.foldl (fun t j => addA t (blk m q (peer j c))) t)) Q)
          -∗ wp frame (wpE (defs₀ (F := F)) 𝒱₀ (c : Thread nD τ) none) Set.univ (waits M hw rM hr cc0_scratch3 cc0_scratch4 q js t >>= k) Q)
  | [], t, k => by
    unfold waits
    simp only [Prog.pure_eq_ret, Prog.bind_ret, lsep, List.foldl_nil]
    iintro ⟨-, -, -, HO⟩ Hk
    iapply Hk
    isplitr; · iempintro
    iexact HO
  | j :: js, t, k => by
    unfold waits
    simp only [waitSend, waitRecv, loadSlot, Prog.lift, Prog.bind_op, Prog.bind_ret, Prog.bind_assoc, lsep, waitPre, List.foldl_cons]
    iintro ⟨#HR, #Hlev, ⟨⟨HcS, HcR, HatS, HatR⟩, Hrest⟩, ⟨%W, HO⟩⟩ Hk
    ihave HRs := (recs_at m K c (some (false, q, j))) $$ HR
    icases HRs with ⟨#HIs, -⟩
    ihave HRr := (recs_at m K c (some (true, q, j))) $$ HR
    icases HRr with ⟨#HIr, -⟩
    -- the send cell: the lent share back
    iapply (Rounds.wp_wait_rest_token 𝒱₀ ER (xRd m) (c : Thread nD τ) none (κ := K (c, some (false, q, j)))
        (wpE_waitDma2_eq 𝒱₀ (c : Thread nD τ) none Set.univ) (Set.mem_univ _) () (O := O) (W := W) (R := 0) (m := 0) (T := ∅)
        (by rw [Nat.zero_add, expect_send])) $$ [HcS HO HatS]
    · isplitr; · iexact HIs
      isplitl [HcS]; · iexact HcS
      isplitl [HO]; · iexact HO
      isplitr
      · iapply (mayWait c (.dma (ssem q j)) (lv_send c q j) (above_mono (Nat.zero_le _) hO)); iexact Hlev
      iexact HatS
    iintro ⟨HO, HatS, -, Hpay⟩
    ihave Hacc := (Entails.of_eq (rest_send m c q j)) $$ Hpay
    -- the receive cell: the slot holding the partner's block
    iapply (Rounds.wp_wait_rest_token 𝒱₀ ER (xRd m) (c : Thread nD τ) none (κ := K (c, some (true, q, j)))
        (wpE_waitDma2_eq 𝒱₀ (c : Thread nD τ) none Set.univ) (Set.mem_univ _) () (O := O) (R := 0) (m := 0) (T := ∅)
        (by rw [Nat.zero_add, expect_recv])) $$ [HcR HO HatR]
    · isplitr; · iexact HIr
      isplitl [HcR]; · iexact HcR
      isplitl [HO]; · iexact HO
      isplitr
      · iapply (mayWait c (.dma (rsem q j)) (lv_recv c q j) hO); iexact Hlev
      iexact HatR
    iintro ⟨HO, HatR, -, Hpay⟩
    ihave Hslot := (Entails.of_eq (rest_recv m c q j)) $$ Hpay
    -- both cells close
    imod (Rounds.cell_close ER (xRd m) (Set.mem_univ (K (c, some (false, q, j)))) (fun h => h) (R := 0 + 1) (duties_later m (sendCell c q j))) $$ [HatS] with HzS
    · isplitr; · iexact HIs
      iexact HatS
    imod (Rounds.cell_close ER (xRd m) (Set.mem_univ (K (c, some (true, q, j)))) (fun h => h) (R := 0 + 1) (duties_later m (recvCell c q j))) $$ [HatR] with HzR
    · isplitr; · iexact HIr
      iexact HatR
    -- the load of the slot
    unfold recvPay pts
    iapply (wp_load 𝒱₀ (c : Thread nD τ) none Set.univ (m := rM) (slot_set q j)) $$ Hslot; iintro Hslot
    rw [slot_load]
    iapply (wp_waits q M hM hw hr O hO js _ k) $$ [Hrest HO]
    · isplitr; · iexact HR
      isplitr; · iexact Hlev
      isplitl [Hrest]; · iexact Hrest
      iexists _; iexact HO
    iintro ⟨Hp, HO⟩
    iapply Hk
    isplitl [Hp Hacc Hslot HzS HzR]
    · isplitl [Hacc Hslot HzS HzR]
      · unfold waitPost
        isplitl [Hacc]; · unfold sendPay; rw [hM]; iexact Hacc
        isplitl [Hslot]; · unfold free; iexists _; iexact Hslot
        isplitl [HzS] <;> iassumption
      · iexact Hp
    iexact HO

/-! ## A layer -/

/-- What a round takes, its accumulator and activations aside, -/
def roundPre (q : Fin 6) : sProp 𝕄 := lsep order fun j =>
  iprop((free (slot q j) (peer j c) ∗ dutyTok ER (sendCell c q j) 0 0 ∗ dutyTok ER (recvCell (peer j c) q j) 0 0)
    ∗ cred (tallyAt (recvCell c q j) () N) ∗ atPos ER (sendCell c q j) 0 ∅ 0 ∗ atPos ER (recvCell c q j) 0 ∅ 0)
/-- and what it gives. -/
def roundPost (q : Fin 6) : sProp 𝕄 := lsep order fun j =>
  iprop(free (slot q j) c ∗ semVal (sendCell c q j) 0 ∗ semVal (recvCell c q j) 0)

theorem round_send (M : Memref sig .tc .vmem S128x128 .bf16) (q : Fin 6) :
    iprop(roundPre c q ∗ lsep order fun j => pts m M c (lent j) (blk m q c))
      ⊢ iprop((lsep order fun j => sendPre m c M q j)
        ∗ lsep order fun j => iprop(cred (tallyAt (recvCell c q j) () N) ∗ atPos ER (sendCell c q j) 0 ∅ 0 ∗ atPos ER (recvCell c q j) 0 ∅ 0)) := by
  unfold roundPre
  rw [← lsep_sep, ← lsep_sep]
  refine lsep_mono (fun j => ?_) order
  unfold sendPre
  iintro ⟨⟨⟨H1, H2, H3⟩, H4⟩, H5⟩
  isplitl [H1 H2 H3 H5]
  · isplitl [H5]; · iexact H5
    isplitl [H1]; · iexact H1
    isplitl [H2] <;> iassumption
  iexact H4

theorem round_wait (q : Fin 6) :
    iprop((lsep order fun j => cred (tallyAt (sendCell c q j) () N))
        ∗ lsep order fun j => iprop(cred (tallyAt (recvCell c q j) () N) ∗ atPos ER (sendCell c q j) 0 ∅ 0 ∗ atPos ER (recvCell c q j) 0 ∅ 0))
      ⊢ (lsep order fun j => waitPre (F := F) c q j) := by
  rw [← lsep_sep]
  refine lsep_mono (fun j => ?_) order
  unfold waitPre
  exact BI.Entails.refl _

theorem round_done (M : Memref sig .tc .vmem S128x128 .bf16) (q : Fin 6) :
    (lsep order fun j => waitPost m c M q j)
      ⊢ iprop((lsep order fun j => pts m M c (lent j) (blk m q c)) ∗ roundPost c q) := by
  unfold roundPost
  rw [← lsep_sep]
  exact lsep_mono (fun j => BI.Entails.refl _) order

theorem hz2 : (![0, 0] : Fin 2 → Nat) = fun _ => 0 := funext fun a => by fin_cases a <;> rfl

/-- An accumulator stored whole reads the value stored, -/
theorem acc_store (h : Fin 2) (f : Buf (Elt F) ((accM h).view.loc (c : Thread nD τ))) (A : Vec F S128x128 .bf16) (p : PosShare TreeShare) :
    ((accM h).view.loc (c : Thread nD τ) ↦[(accM h).view.set]{p} ((accM h).access rAll : View sig .tc _ _ _).write (Elt F) f A Finset.univ : sProp 𝕄)
      = pts m (accM h) c p A := by
  refine pts_of m (accM h) c p A _ ?_
  match h with
  | 0 => exact (congrArg _ (Memref.write_access_unit_zero_univ (Elt F) cc0_scratch0 hz2 _ f A)).trans (View.read_whole _ _)
  | 1 => exact (congrArg _ (Memref.write_access_unit_zero_univ (Elt F) cc0_scratch1 hz2 _ f A)).trans (View.read_whole _ _)
/-- and so does a load of it. -/
theorem acc_load (h : Fin 2) (A : Vec F S128x128 .bf16) (g : Buf (Elt F) ((accM h).view.loc (c : Thread nD τ))) :
    (accM h).view.readAt (Elt F) rAll.toLoadRect ((accM h).view.write (Elt F) g A Finset.univ) = A := by
  match h with
  | 0 => exact (Memref.readAt_unit_zero (Elt F) cc0_scratch0 hz2 _ _).trans (View.write_whole_univ _ _ _)
  | 1 => exact (Memref.readAt_unit_zero (Elt F) cc0_scratch1 hz2 _ _).trans (View.write_whole_univ _ _ _)

/-- What a layer starts from, its weights aside, -/
def layerPre (l : Fin 3) (O : CellTallies nD τ sig Unit) : sProp 𝕄 :=
  iprop(free (accM 0) c ∗ free (accM 1) c ∗ roundPre c (rd l 0) ∗ roundPre c (rd l 1)
    ∗ owesU c ((O + oRound c (rd l 1) order) + oRound c (rd l 0) order))
/-- and what it ends with. -/
def layerPost (l : Fin 3) (O : CellTallies nD τ sig Unit) : sProp 𝕄 :=
  iprop(free (accM 0) c ∗ free (accM 1) c ∗ roundPost c (rd l 0) ∗ roundPost c (rd l 1) ∗ owesU c O)

theorem tot_rd (l : Fin 3) (h : Fin 2) :
    order.foldl (fun t j => addA t (blk m (rd l h) (peer j c))) (k0_pay5 (blk m (rd l h) c)) = tot m (Xs m l) l h c := by
  unfold tot; simp only [blk_rd]

set_option maxHeartbeats 2000000 in
theorem wp_layer {α : Type} {Q : α → sProp 𝕄} (l : Fin 3) (O : CellTallies nD τ sig Unit) (hO : Above (2 + l.val) O)
    (h0 : (accM 0).IsWhole) (h1 : (accM 1).IsWhole) (hr : rM.IsWhole)
    (wi : Memref sig .tc .vmem S128x256 .f32) (wo : Memref sig .tc .vmem S256x128 .f32)
    (fi : Buf (Elt F) (wi.view.loc (c : Thread nD τ))) (fo : Buf (Elt F) (wo.view.loc (c : Thread nD τ)))
    (hi0 : wi.view.readAt (Elt F) (rWi 0).toLoadRect fi = wiH m l 0 c) (hi1 : wi.view.readAt (Elt F) (rWi 1).toLoadRect fi = wiH m l 1 c)
    (ho0 : wo.view.readAt (Elt F) (rWo 0).toLoadRect fo = woH m l 0 c) (ho1 : wo.view.readAt (Elt F) (rWo 1).toLoadRect fo = woH m l 1 c)
    (k : FVec F S128x128 .f32 → TP F α) :
    iprop(recs m K ∗ levAts L lv ∗ layerPre c l O ∗ (wi.view.loc (c : Thread nD τ) ↦{fullShare} fi) ∗ (wo.view.loc (c : Thread nD τ) ↦{fullShare} fo))
      ⊢ iprop(((layerPost c l O ∗ (wi.view.loc (c : Thread nD τ) ↦{fullShare} fi) ∗ (wo.view.loc (c : Thread nD τ) ↦{fullShare} fo))
            -∗ wp frame (wpE (defs₀ (F := F)) 𝒱₀ (c : Thread nD τ) none) Set.univ (k (lay m (Xs m l) l c)) Q)
          -∗ wp frame (wpE (defs₀ (F := F)) 𝒱₀ (c : Thread nD τ) none) Set.univ
              (layer (accM 0) h0 (accM 1) h1 rM hr cc0_scratch3 cc0_scratch4 c l wi wo (Xs m l c) >>= k) Q) := by
  have hM0 : accM (hq (rd l 0)) = accM 0 := by rw [hq_rd]
  have hM1 : accM (hq (rd l 1)) = accM 1 := by rw [hq_rd]
  have hO0 : Above (2 + (lq (rd l 0)).val) O := by rw [lq_rd]; exact hO
  have hO1 : Above (2 + (lq (rd l 1)).val) O := by rw [lq_rd]; exact hO
  unfold layer layerPre free
  simp only [loadWin, loadAll, storeAcc, loadWout, Prog.lift, Prog.bind_op, Prog.bind_ret, Prog.bind_assoc, Prog.pure_eq_ret]
  iintro ⟨#HR, #Hlev, ⟨⟨%f0, Ha0⟩, ⟨%f1, Ha1⟩, Hr0, Hr1, HO⟩, Hwi, Hwo⟩ Hk
  -- the first chunk: product, store, sends
  iapply (wp_load 𝒱₀ (c : Thread nD τ) none Set.univ (m := wi) (Finset.subset_univ _)) $$ Hwi; iintro Hwi
  rw [show wi.view.readAt (Elt F) _ fi = wiH m l 0 c from hi0]
  iapply (wp_load 𝒱₀ (c : Thread nD τ) none Set.univ (m := accM 0) (View.setOn_subset_set _ _)) $$ Ha0; iintro Ha0
  iapply (wp_store 𝒱₀ (c : Thread nD τ) none Set.univ (m := accM 0) (r := rAll) (Mk := Finset.univ) (View.setOn_slice_subset_set _ _ _)) $$ Ha0; iintro Ha0
  rw [show accV (Xs m l c) (wiH m l 0 c) = blk m (rd l 0) c from (blk_rd m l 0 c).symm]
  ihave Ha0 := (Entails.of_eq ((acc_store m c 0 f0 _ fullShare).trans (pts_split m _ c _))) $$ Ha0
  icases Ha0 with ⟨Ha0, Hl0⟩
  ihave Hr0 := (round_send m c (accM 0) (rd l 0)) $$ [Hr0 Hl0]
  · isplitl [Hr0] <;> iassumption
  icases Hr0 with ⟨Hs0, Hr0⟩
  iapply (wp_sends m K c (rd l 0) (accM 0) hM0 h0 hr (O + oRound c (rd l 1) order) order) $$ [Hs0 HO]
  · isplitr; · iexact HR
    isplitl [Hs0] <;> iassumption
  iintro ⟨Hc0, HO⟩
  -- the second chunk
  iapply (wp_load 𝒱₀ (c : Thread nD τ) none Set.univ (m := wi) (Finset.subset_univ _)) $$ Hwi; iintro Hwi
  rw [show wi.view.readAt (Elt F) _ fi = wiH m l 1 c from hi1]
  iapply (wp_load 𝒱₀ (c : Thread nD τ) none Set.univ (m := accM 1) (View.setOn_subset_set _ _)) $$ Ha1; iintro Ha1
  iapply (wp_store 𝒱₀ (c : Thread nD τ) none Set.univ (m := accM 1) (r := rAll) (Mk := Finset.univ) (View.setOn_slice_subset_set _ _ _)) $$ Ha1; iintro Ha1
  rw [show accV (Xs m l c) (wiH m l 1 c) = blk m (rd l 1) c from (blk_rd m l 1 c).symm]
  ihave Ha1 := (Entails.of_eq ((acc_store m c 1 f1 _ fullShare).trans (pts_split m _ c _))) $$ Ha1
  icases Ha1 with ⟨Ha1, Hl1⟩
  ihave Hr1 := (round_send m c (accM 1) (rd l 1)) $$ [Hr1 Hl1]
  · isplitl [Hr1] <;> iassumption
  icases Hr1 with ⟨Hs1, Hr1⟩
  iapply (wp_sends m K c (rd l 1) (accM 1) hM1 h1 hr O order) $$ [Hs1 HO]
  · isplitr; · iexact HR
    isplitl [Hs1] <;> iassumption
  iintro ⟨Hc1, HO⟩
  -- the first chunk's blocks collected
  unfold pts
  iapply (wp_load 𝒱₀ (c : Thread nD τ) none Set.univ (m := accM 0) (View.setOn_subset_set _ _)) $$ Ha0; iintro Ha0
  rw [acc_load]
  ihave Hw0 := (round_wait c (rd l 0)) $$ [Hc0 Hr0]
  · isplitl [Hc0] <;> iassumption
  iapply (wp_waits m K c (rd l 0) (accM 0) hM0 h0 hr O hO0 order) $$ [Hw0 HO]
  · isplitr; · iexact HR
    isplitr; · iexact Hlev
    isplitl [Hw0] <;> iassumption
  iintro ⟨Hp0, HO⟩
  rw [tot_rd]
  iapply (wp_load 𝒱₀ (c : Thread nD τ) none Set.univ (m := wo) (Finset.subset_univ _)) $$ Hwo; iintro Hwo
  rw [show wo.view.readAt (Elt F) _ fo = woH m l 0 c from ho0]
  -- the second chunk's
  iapply (wp_load 𝒱₀ (c : Thread nD τ) none Set.univ (m := accM 1) (View.setOn_subset_set _ _)) $$ Ha1; iintro Ha1
  rw [acc_load]
  ihave Hw1 := (round_wait c (rd l 1)) $$ [Hc1 Hr1]
  · isplitl [Hc1] <;> iassumption
  iapply (wp_waits m K c (rd l 1) (accM 1) hM1 h1 hr O hO1 order) $$ [Hw1 HO]
  · isplitr; · iexact HR
    isplitr; · iexact Hlev
    isplitl [Hw1] <;> iassumption
  iintro ⟨Hp1, HO⟩
  rw [tot_rd]
  iapply (wp_load 𝒱₀ (c : Thread nD τ) none Set.univ (m := wo) (Finset.subset_univ _)) $$ Hwo; iintro Hwo
  rw [show wo.view.readAt (Elt F) _ fo = woH m l 1 c from ho1]
  -- the shares lent rejoin the shares kept
  ihave Hp0 := (round_done m c (accM 0) (rd l 0)) $$ Hp0
  icases Hp0 with ⟨Hl0, Hp0⟩
  ihave Hp1 := (round_done m c (accM 1) (rd l 1)) $$ Hp1
  icases Hp1 with ⟨Hl1, Hp1⟩
  ihave Ha0 := (Entails.of_eq (pts_split m (accM 0) c (blk m (rd l 0) c)).symm) $$ [Ha0 Hl0]
  · isplitl [Ha0]; · unfold pts; iexact Ha0
    iexact Hl0
  ihave Ha1 := (Entails.of_eq (pts_split m (accM 1) c (blk m (rd l 1) c)).symm) $$ [Ha1 Hl1]
  · isplitl [Ha1]; · unfold pts; iexact Ha1
    iexact Hl1
  ihave Ha0 := (pts_free m (accM 0) c _) $$ Ha0
  ihave Ha1 := (pts_free m (accM 1) c _) $$ Ha1
  iapply Hk
  isplitl [Ha0 Ha1 Hp0 Hp1 HO]
  · unfold layerPost
    isplitl [Ha0]; · iexact Ha0
    isplitl [Ha1]; · iexact Ha1
    isplitl [Hp0]; · iexact Hp0
    isplitl [Hp1] <;> iassumption
  isplitl [Hwi] <;> iassumption

end Steps

end Cert.Mlp

end
-- ==== Proof.Body.lean ====
/-
The whole body, executed, and the library's obligation on it: the pipeline's proof data (what each staging buffer
holds after the one point, what the device holds before and after it, what it owes).
-/
module

public import proofs.«01_k».proof.Proof.Exec

@[expose] public section

set_option maxRecDepth 16384

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device starts from and ends with -/

/-- The tokens it pays round `q` with, the credit it waits with, its positions at the round's cells. -/
def roundTok (c : Dev nD) (q : Fin 6) : sProp 𝕄 := lsep order fun j =>
  iprop((dutyTok ER (sendCell c q j) 0 0 ∗ dutyTok ER (recvCell (peer j c) q j) 0 0)
    ∗ (atPos ER (sendCell c q j) 0 ∅ 0 ∗ atPos ER (recvCell c q j) 0 ∅ 0))
def roundCred (c : Dev nD) (q : Fin 6) : sProp 𝕄 := lsep order fun j => cred (tallyAt (recvCell c q j) () N)

/-- The exchange's ghost state device `c` starts from. -/
def ghost (K : Dev nD × CI → ℕ) (c : Dev nD) : sProp 𝕄 :=
  iprop(recs m K ∗ atPos ER (barCell c) 0 ∅ 0 ∗ (lsep order fun j => dutyTok ER (barCell (peer j c)) 0 j)
    ∗ bigSep Finset.univ fun q : Fin 6 => roundTok c q)
/-- That at some names, its credit and the level facts. -/
def start (c : Dev nD) : sProp 𝕄 :=
  iprop((∃ K, ghost m K c) ∗ (cred (tallyAt (barCell c) () 7) ∗ bigSep Finset.univ fun q : Fin 6 => roundCred c q) ∗ levAts L lv)
/-- The scratch: both accumulators, the landing slots. -/
def scratch (c : Dev nD) : sProp 𝕄 :=
  iprop(free (accM 0) c ∗ free (accM 1) c ∗ lsep order fun j => bigSep Finset.univ fun q : Fin 6 => free (slot q j) c)

def Φ₀ (c : Dev nD) : sProp 𝕄 := iprop(start m c ∗ scratch c)
/-- After the point: the scratch, every own cell closed at zero, the barrier's too. -/
def Φ₁ (c : Dev nD) : sProp 𝕄 :=
  iprop(free (accM 0) c ∗ free (accM 1) c ∗ (bigSep Finset.univ fun q : Fin 6 => roundPost c q) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xB m c
    | ⟨1, _⟩ => wiB m 0 c
    | ⟨2, _⟩ => woB m 0 c
    | ⟨3, _⟩ => wiB m 1 c
    | ⟨4, _⟩ => woB m 1 c
    | ⟨5, _⟩ => wiB m 2 c
    | ⟨6, _⟩ => woB m 2 c
    | ⟨7, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The six rounds, in order. -/
theorem bigSep_rounds (Φ : Fin 6 → sProp 𝕄) :
    bigSep Finset.univ Φ = iprop(Φ (rd 0 0) ∗ Φ (rd 0 1) ∗ Φ (rd 1 0) ∗ Φ (rd 1 1) ∗ Φ (rd 2 0) ∗ Φ (rd 2 1)) :=
  bigSep_univ_eq_bigSepL [rd 0 0, rd 0 1, rd 1 0, rd 1 1, rd 2 0, rd 2 1] (by decide) (by decide) Φ

/-- The partners' slots received at the barrier, the tokens and the credit: what the six rounds take. -/
theorem rounds_pre (c : Dev nD) :
    iprop((bigSep Finset.univ fun j : Fin 7 => barPay (F := F) c j) ∗ (bigSep Finset.univ fun q : Fin 6 => roundTok c q) ∗ bigSep Finset.univ fun q : Fin 6 => roundCred c q)
      ⊢ bigSep Finset.univ fun q : Fin 6 => roundPre (F := F) c q := by
  have h : (bigSep Finset.univ fun j : Fin 7 => barPay (F := F) c j)
      = bigSep Finset.univ fun q : Fin 6 => lsep order fun j => free (F := F) (slot q j) (peer j c) := by
    unfold barPay
    rw [bigSep_univ_comm]
    exact bigSep_congr fun q _ => lsep_order _
  rw [h, ← bigSep_sep', ← bigSep_sep']
  refine bigSep_mono fun q _ => ?_
  unfold roundTok roundCred roundPre
  rw [← lsep_sep, ← lsep_sep]
  refine lsep_mono (fun j => ?_) order
  iintro ⟨H1, ⟨⟨H2, H3⟩, H4, H5⟩, H6⟩
  isplitl [H1 H2 H3]
  · isplitl [H1]; · iexact H1
    isplitl [H2] <;> iassumption
  isplitl [H6]; · iexact H6
  isplitl [H4] <;> iassumption

section Body

variable (K : Dev nD × CI → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 8) t0_0 d))
    ∗ (∃ d, stg c cc0_stg1_0 ((dats m 0 c).before (1 : Fin 8) t0_0 d))
    ∗ (∃ d, stg c cc0_stg2_0 ((dats m 0 c).before (2 : Fin 8) t0_0 d))
    ∗ (∃ d, stg c cc0_stg3_0 ((dats m 0 c).before (3 : Fin 8) t0_0 d))
    ∗ (∃ d, stg c cc0_stg4_0 ((dats m 0 c).before (4 : Fin 8) t0_0 d))
    ∗ (∃ d, stg c cc0_stg5_0 ((dats m 0 c).before (5 : Fin 8) t0_0 d))
    ∗ (∃ d, stg c cc0_stg6_0 ((dats m 0 c).before (6 : Fin 8) t0_0 d))
    ∗ (∃ d, stg c cc0_stg7_0 ((dats m 0 c).before (7 : Fin 8) t0_0 d)))

def bodyPost (c : Dev nD) : sProp 𝕄 :=
  iprop(Φ₁ c ∗ (dats m 0 c).owesAt () t0_0.succ
    ∗ stg c cc0_stg0_0 (xB m c) ∗ stg c cc0_stg1_0 (wiB m 0 c) ∗ stg c cc0_stg2_0 (woB m 0 c)
    ∗ stg c cc0_stg3_0 (wiB m 1 c) ∗ stg c cc0_stg4_0 (woB m 1 c) ∗ stg c cc0_stg5_0 (wiB m 2 c) ∗ stg c cc0_stg6_0 (woB m 2 c)
    ∗ stg c cc0_stg7_0 (outAt m c))

set_option maxHeartbeats 4000000 in
/-- The body, from `bodyPre` to `bodyPost`. -/
theorem sound_body (c : Dev nD) (h0 : (accM 0).IsWhole) (h1 : (accM 1).IsWhole) (hr : rM.IsWhole) (Kt : PUnit → sProp 𝕄) :
    iprop(bodyPre m c ∗ (bodyPost m c -∗ Kt ⟨⟩))
      ⊢ wp frame (wpE (defs₀ (F := F)) 𝒱₀ c none) Set.univ
          (body (Memref.whole cc0_stg0_0) (Memref.whole cc0_stg1_0) (Memref.whole cc0_stg2_0) (Memref.whole cc0_stg3_0) (Memref.whole cc0_stg4_0)
            (Memref.whole cc0_stg5_0) (Memref.whole cc0_stg6_0) (Memref.whole cc0_stg7_0) (accM 0) h0 (accM 1) h1 rM hr cc0_scratch3 cc0_scratch4) Kt := by
  unfold body
  simp only [loadAll, semWaitWord, Prog.lift, Prog.bind_op, Prog.bind_ret, Prog.bind_assoc, Prog.pure_eq_ret, wp_deviceId]
  unfold bodyPre Φ₀ start scratch
  iintro ⟨⟨⟨⟨⟨%K, Hgh⟩, ⟨HcB, HcR⟩, #Hlev⟩, Ha0, Ha1, Hslots⟩, Ho, ⟨%d0, %g0, %hg0, Hx⟩, ⟨%d1, %g1, %hg1, Hw1⟩, ⟨%d2, %g2, %hg2, Hw2⟩,
    ⟨%d3, %g3, %hg3, Hw3⟩, ⟨%d4, %g4, %hg4, Hw4⟩, ⟨%d5, %g5, %hg5, Hw5⟩, ⟨%d6, %g6, %hg6, Hw6⟩, ⟨%d7, %g7, %hg7, Hout⟩⟩, Hk⟩
  have e0 : g0 = xB m c := by rw [hg0]; unfold Dat.before; rw [if_pos (fetch0_0 t0_0)]; rfl
  have e1 : g1 = wiB m 0 c := by rw [hg1]; unfold Dat.before; rw [if_pos (fetch0_1 t0_0)]; rfl
  have e2 : g2 = woB m 0 c := by rw [hg2]; unfold Dat.before; rw [if_pos (fetch0_2 t0_0)]; rfl
  have e3 : g3 = wiB m 1 c := by rw [hg3]; unfold Dat.before; rw [if_pos (fetch0_3 t0_0)]; rfl
  have e4 : g4 = woB m 1 c := by rw [hg4]; unfold Dat.before; rw [if_pos (fetch0_4 t0_0)]; rfl
  have e5 : g5 = wiB m 2 c := by rw [hg5]; unfold Dat.before; rw [if_pos (fetch0_5 t0_0)]; rfl
  have e6 : g6 = woB m 2 c := by rw [hg6]; unfold Dat.before; rw [if_pos (fetch0_6 t0_0)]; rfl
  subst e0 e1 e2 e3 e4 e5 e6
  unfold ghost
  icases Hgh with ⟨#HR, HatB, HtB, Htok⟩
  unfold Dat.owesAt Pipeline.owesWithin
  icases Ho with ⟨%W, -, HO⟩
  rw [show (dats m 0 c).owed t0_0.castSucc = oFrom c 3 + oSig c order from rfl]
  -- the signals
  iapply (wp_signals m K c (oFrom c 3) order) $$ [HO HtB Hslots]
  · isplitr; · iexact HR
    isplitl [HtB Hslots]
    · rw [lsep_sep]; isplitl [HtB] <;> iassumption
    iexists W; iexact HO
  iintro ⟨%W, HO⟩
  -- the barrier wait
  ihave HRb := (recs_at m K c none) $$ HR
  icases HRb with ⟨#HIb, -⟩
  iapply (Rounds.wp_wait_rest_token 𝒱₀ ER (xRd m) (c : Thread nD τ) none (κ := K (c, none))
      (wpE_semWait_eq 𝒱₀ (c : Thread nD τ) none Set.univ) (Set.mem_univ _) () (O := oFrom c 3) (W := W) (R := 0) (m := 0) (T := ∅)
      (by show _ = (xRd (F := F) m).expect (barCell c) 0; rw [expect_bar]; decide)) $$ [HcB HO HatB]
  · isplitr; · iexact HIb
    isplitl [HcB]; · iexact HcB
    isplitl [HO]; · iexact HO
    isplitr; · iapply (mayWait c (.reg barS) (lv_bar c) (above_from c 3 (by decide))); iexact Hlev
    iexact HatB
  iintro ⟨HO, HatB, -, Hpay⟩
  ihave Hp := (Entails.of_eq (rest_bar m c)) $$ Hpay
  imod (Rounds.cell_close ER (xRd m) (Set.mem_univ (K (c, none))) (fun h => h) (R := 0 + 1) (duties_later m (barCell c))) $$ [HatB] with HzB
  · isplitr; · iexact HIb
    iexact HatB
  ihave Hrs := (rounds_pre c) $$ [Hp Htok HcR]
  · isplitl [Hp]; · iexact Hp
    isplitl [Htok] <;> iassumption
  ihave Hrs := (Entails.of_eq (bigSep_rounds _)) $$ Hrs
  icases Hrs with ⟨Hr00, Hr01, Hr10, Hr11, Hr20, Hr21⟩
  -- the activations
  iapply (wp_load 𝒱₀ (c : Thread nD τ) none Set.univ (m := Memref.whole cc0_stg0_0) (Finset.subset_univ _)) $$ Hx; iintro Hx
  rw [show (Memref.whole cc0_stg0_0 : Memref sig .tc .vmem S128x128 .f32).view.readAt (Elt F) _ (xB m c) = xB m c from Memref.readAt_unit_zero (Elt F) cc0_stg0_0 hz2 _ _]
  rw [show k0_pay2 (xB m c) = Xs m 0 c from rfl]
  -- the layers
  iapply (wp_layer m K c 0 (oFrom c 2) (above_from c 2 (by decide)) h0 h1 hr (Memref.whole cc0_stg1_0) (Memref.whole cc0_stg2_0)
    (wiB m 0 c) (woB m 0 c) rfl rfl rfl rfl) $$ [Ha0 Ha1 Hr00 Hr01 HO Hw1 Hw2]
  · isplitr; · iexact HR
    isplitr; · iexact Hlev
    isplitl [Ha0 Ha1 Hr00 Hr01 HO]
    · unfold layerPre
      isplitl [Ha0]; · iexact Ha0
      isplitl [Ha1]; · iexact Ha1
      isplitl [Hr00]; · iexact Hr00
      isplitl [Hr01]; · iexact Hr01
      iexists _; iexact HO
    isplitl [Hw1] <;> iassumption
  unfold layerPost
  iintro ⟨⟨Ha0, Ha1, Hr00, Hr01, HO⟩, Hw1, Hw2⟩
  rw [show rndV (lay m (Xs m 0) 0 c) = Xs m 1 c from rfl]
  iapply (wp_layer m K c 1 (oFrom c 1) (above_from c 1 (by decide)) h0 h1 hr (Memref.whole cc0_stg3_0) (Memref.whole cc0_stg4_0)
    (wiB m 1 c) (woB m 1 c) rfl rfl rfl rfl) $$ [Ha0 Ha1 Hr10 Hr11 HO Hw3 Hw4]
  · isplitr; · iexact HR
    isplitr; · iexact Hlev
    isplitl [Ha0 Ha1 Hr10 Hr11 HO]
    · unfold layerPre
      isplitl [Ha0]; · iexact Ha0
      isplitl [Ha1]; · iexact Ha1
      isplitl [Hr10]; · iexact Hr10
      isplitl [Hr11]; · iexact Hr11
      iexact HO
    isplitl [Hw3] <;> iassumption
  unfold layerPost
  iintro ⟨⟨Ha0, Ha1, Hr10, Hr11, HO⟩, Hw3, Hw4⟩
  rw [show rndV (lay m (Xs m 1) 1 c) = Xs m 2 c from rfl]
  iapply (wp_layer m K c 2 (oFrom c 0) (above_from c 0 (by decide)) h0 h1 hr (Memref.whole cc0_stg5_0) (Memref.whole cc0_stg6_0)
    (wiB m 2 c) (woB m 2 c) rfl rfl rfl rfl) $$ [Ha0 Ha1 Hr20 Hr21 HO Hw5 Hw6]
  · isplitr; · iexact HR
    isplitr; · iexact Hlev
    isplitl [Ha0 Ha1 Hr20 Hr21 HO]
    · unfold layerPre
      isplitl [Ha0]; · iexact Ha0
      isplitl [Ha1]; · iexact Ha1
      isplitl [Hr20]; · iexact Hr20
      isplitl [Hr21]; · iexact Hr21
      iexact HO
    isplitl [Hw5] <;> iassumption
  unfold layerPost
  iintro ⟨⟨Ha0, Ha1, Hr20, Hr21, ⟨%Wf, HO⟩⟩, Hw5, Hw6⟩
  rw [show lay m (Xs m 2) 2 c = outAt m c from rfl]
  -- the store
  iapply (wp_load 𝒱₀ (c : Thread nD τ) none Set.univ (m := Memref.whole cc0_stg7_0) (Finset.subset_univ _)) $$ Hout; iintro Hout
  iapply (wp_store 𝒱₀ (c : Thread nD τ) none Set.univ (m := Memref.whole cc0_stg7_0) (r := rAll) (Mk := Finset.univ) (Finset.subset_univ _)) $$ Hout; iintro Hout
  rw [show ((Memref.whole cc0_stg7_0 : Memref sig .tc .vmem S128x128 .f32).access rAll : View sig .tc _ _ _).write (Elt F) g7 (outAt m c) Finset.univ = outAt m c from
    Memref.write_access_unit_zero_univ (Elt F) cc0_stg7_0 hz2 _ _ _, wp_ret]; imodintro
  iapply Hk
  unfold bodyPost Φ₁ Dat.owesAt Pipeline.owesWithin
  rw [show (dats m 0 c).owed t0_0.succ = 0 from rfl]
  isplitl [Ha0 Ha1 Hr00 Hr01 Hr10 Hr11 Hr20 Hr21 HzB]
  · isplitl [Ha0]; · iexact Ha0
    isplitl [Ha1]; · iexact Ha1
    isplitr [HzB]
    · rw [bigSep_rounds]
      isplitl [Hr00]; · iexact Hr00
      isplitl [Hr01]; · iexact Hr01
      isplitl [Hr10]; · iexact Hr10
      isplitl [Hr11]; · iexact Hr11
      isplitl [Hr20] <;> iassumption
    iexact HzB
  isplitl [HO]
  · iexists Wf
    isplitr; · ipureintro; exact fun _ _ => Or.inl trivial
    iexact HO
  isplitl [Hx]
  · iexists _; isplitr; · (ipureintro; rfl)
    iexact Hx
  isplitl [Hw1]
  · iexists _; isplitr; · (ipureintro; rfl)
    iexact Hw1
  isplitl [Hw2]
  · iexists _; isplitr; · (ipureintro; rfl)
    iexact Hw2
  isplitl [Hw3]
  · iexists _; isplitr; · (ipureintro; rfl)
    iexact Hw3
  isplitl [Hw4]
  · iexists _; isplitr; · (ipureintro; rfl)
    iexact Hw4
  isplitl [Hw5]
  · iexists _; isplitr; · (ipureintro; rfl)
    iexact Hw5
  isplitl [Hw6]
  · iexists _; isplitr; · (ipureintro; rfl)
    iexact Hw6
  iexists _; isplitr; · (ipureintro; rfl)
  iexact Hout

/-- The library's body obligation on core `c`. -/
theorem body_obligation (c : Dev nD) : BodyObligation (dats (F := F) m 0 c) (defs₀ (F := F)) 𝒱₀ () Set.univ := fun t => by
  rw [fin_N0 t]
  have hb : ∀ Φ : Fin cfg0.W → sProp 𝕄, bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
    fun Φ => bigSep_W0 Φ
  rw [hb, hb]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4) (fun _ => bodyPost m c)
  rw [cc0_body_eq]
  have h := sound_body m c (Memref.isWhole_whole cc0_scratch0) (Memref.isWhole_whole cc0_scratch1) (Memref.isWhole_whole cc0_scratch2) fun _ => bodyPost m c
  have h' : bodyPre m c ⊢ iprop(bodyPre m c ∗ (bodyPost m c -∗ bodyPost m c)) := by
    iintro H
    isplitl [H]; · iexact H
    iintro H; iexact H
  exact BI.Entails.trans h' h

end Body

end Cert.Mlp

end
-- ==== Proof.Launch.lean ====
/-
The launch: the exchange's ghost state minted and dealt to the devices, the credit each device waits with, the landing
slots cut out of their buffer and joined again, and the run of @main on all eight devices.
-/
module

public import proofs.«01_k».proof.Proof.Body
public import Idealize.ShloMosaic.Lib.Ring
public import Idealize.ShloMosaic.Lib.Pipeline.CollectiveSegs

@[expose] public section

set_option maxRecDepth 16384

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-! ## The kernel's own semaphores; families over the cells -/

/-- The send and receive semaphores. -/
abbrev OI : Type := Bool × Fin 6 × Fin 7
def osem (k : OI) : SemLoc sig := csem (some k)

theorem osem_val (k : OI) : ∃ s : DmaSem sig, osem k = .dma s ∧ 8 ≤ s.val := by
  rcases k with ⟨_ | _, q, j⟩
  · exact ⟨ssem q j, rfl, by rw [ssem_val]; omega⟩
  · exact ⟨rsem q j, rfl, by rw [rsem_val]; omega⟩

theorem stage_val : ∀ (w : Fin cfg0.W) (s), ((cfg0.spec w).sem s).val < 8 := by decide +kernel

theorem ownSemFacts : Pipeline.OwnSemFacts cfg0.spec osem where
  isScoped := by decide +kernel
  inj := fun a b h => Option.some.inj (csem_injective h)
  disj := fun k w s h => by
    obtain ⟨d, hd, hv⟩ := osem_val k
    rw [hd] at h
    have := stage_val w s
    rw [← SemLoc.dma.inj h] at this
    omega

omit [FloatOps F] in
/-- A family over the send and receive cells, round by round. -/
theorem bigSep_OI (Φ : OI → sProp 𝕄) : bigSep Finset.univ Φ
    = iprop((bigSep Finset.univ fun q : Fin 6 => lsep order fun j => Φ (false, q, j)) ∗ bigSep Finset.univ fun q : Fin 6 => lsep order fun j => Φ (true, q, j)) := by
  have h : ∀ b, (bigSep Finset.univ fun x : Fin 6 × Fin 7 => Φ (b, x)) = bigSep Finset.univ fun q : Fin 6 => lsep order fun j => Φ (b, q, j) := fun b => by
    rw [bigSep_univ_prod]; exact bigSep_congr fun q _ => lsep_order _
  rw [bigSep_univ_prod, bigSep_univ_eq_bigSepL [false, true] (by decide) (by decide), ← h, ← h]; rfl

omit [FloatOps F] in
/-- A family over all the cells of a device: the barrier's, then those. -/
theorem bigSep_CI (Φ : CI → sProp 𝕄) : bigSep Finset.univ Φ = iprop(Φ none ∗ bigSep Finset.univ fun k : OI => Φ (some k)) := by
  rw [bigSep_univ_equiv (Equiv.optionEquivSumPUnit OI).symm Φ, bigSep_univ_sum, bigSep_univ_of_subsingleton ()]
  have comm : ∀ A B : sProp 𝕄, iprop(A ∗ B) ⊢ iprop(B ∗ A) := fun A B => by
    iintro ⟨H1, H2⟩; isplitl [H2] <;> iassumption
  exact BI.Entails.antisymm (comm _ _) (comm _ _)

/-! ## The ghost state minted at launch -/

def exCells : Finset (GSem nD τ sig) := Finset.univ.map ⟨fun p : Dev nD × CI => cell p.1 p.2, cell_injective⟩

/-- A device's duty tokens: its barrier's seven, one for each other cell. -/
abbrev TI : Type := Fin 7 ⊕ OI
def tokOf : Dev nD × TI → GSem nD τ sig × ℕ × Fin 7
  | (c, .inl j) => (barCell c, 0, j)
  | (c, .inr k) => (cell c (some k), 0, 0)
theorem tokOf_injective : Function.Injective tokOf := by
  rintro ⟨c, j | k⟩ ⟨c', j' | k'⟩ h
  · have h1 : c = c' := congrArg (fun x : GSem nD τ sig × ℕ × Fin 7 => x.1.1.1) h
    have h2 : j = j' := congrArg (fun x : GSem nD τ sig × ℕ × Fin 7 => x.2.2) h
    rw [h1, h2]
  · have h1 : (fun p : Dev nD × CI => cell p.1 p.2) (c, none) = (fun p : Dev nD × CI => cell p.1 p.2) (c', some k') := congrArg Prod.fst h
    cases cell_injective h1
  · have h1 : (fun p : Dev nD × CI => cell p.1 p.2) (c, some k) = (fun p : Dev nD × CI => cell p.1 p.2) (c', none) := congrArg Prod.fst h
    cases cell_injective h1
  · have h1 : (fun p : Dev nD × CI => cell p.1 p.2) (c, some k) = (fun p : Dev nD × CI => cell p.1 p.2) (c', some k') := congrArg Prod.fst h
    cases cell_injective h1; rfl
def exToks : Finset (GSem nD τ sig × ℕ × Fin 7) := Finset.univ.map ⟨tokOf, tokOf_injective⟩

def u₀ : UU := (initOf (Pipeline.cells cfgs cellOf_inj) (Pipeline.launchToks cfgs cellOf_inj), initOf exCells exToks)

/-- The duty tokens of device `c`'s own cells. -/
def toks (c : Dev nD) : sProp 𝕄 :=
  iprop((bigSep Finset.univ fun j : Fin 7 => dutyTok ER (barCell c) 0 j)
    ∗ (bigSep Finset.univ fun q : Fin 6 => bigSep Finset.univ fun j : Fin 7 => dutyTok ER (sendCell c q j) 0 0)
    ∗ bigSep Finset.univ fun q : Fin 6 => bigSep Finset.univ fun j : Fin 7 => dutyTok ER (recvCell c q j) 0 0)

/-- The positions at device `c`'s cells. -/
def poss (c : Dev nD) : sProp 𝕄 := bigSep Finset.univ fun k : CI => atPos ER (cell c k) 0 ∅ 0

def G (c : Dev nD) : sProp 𝕄 :=
  iprop((bigSep Finset.univ fun k : CI => roundState ER (xRd m) (cell c k) 0) ∗ (bigSep Finset.univ fun k : CI => reached ER (cell c k) 0) ∗ poss c ∗ toks c)
def G' (c : Dev nD) : sProp 𝕄 := iprop(∃ K, ghost m K c)

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : CI => Φ (cell c k) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    refine bigSep_congr fun c _ => ?_
    unfold toks
    rw [bigSep_univ_sum]
    show BI.sep (bigSep Finset.univ fun j : Fin 7 => (dutyTok ER (barCell c) 0 j : sProp 𝕄)) (bigSep Finset.univ fun k : OI => dutyTok ER (cell c (some k)) 0 0) = _
    rw [bigSep_OI]
    simp only [← lsep_order]
    rfl
  iintro HX
  imod (Rounds.fund ER (xRd m) exCells exToks) $$ HX with ⟨Hst, Hr, Hat, Htok⟩
  imodintro
  ihave Hst' := (Entails.of_eq (hX fun g => roundState ER (xRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss; simp only [bigSep_sep']
  isplitl [Hst']; · iexact Hst'
  isplitl [Hr']; · iexact Hr'
  isplitl [Hat'] <;> iassumption

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (cell c k) 0 : sProp 𝕄) := by
  rw [unscopedSems0_eq, bigSep_CI]
  unfold Pipeline.ownSems0
  iintro ⟨H1, H2⟩
  isplitl [H2]; · iexact H2
  iexact H1

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (xRd m) κ (cell c k)))
          ∗ (bigSep Finset.univ fun k : CI => reached ER (cell c k) 0) ∗ poss c ∗ toks c) := by
  unfold G
  iintro ⟨Hos, Hus, Hst, Hrest⟩
  ihave Hv := (sems0_eq (F := F) c) $$ [Hos Hus]
  · isplitl [Hos] <;> iassumption
  imod (show iprop((bigSep Finset.univ fun k : CI => semVal (cell c k) 0) ∗ bigSep Finset.univ fun k : CI => roundState ER (xRd m) (cell c k) 0)
      ⊢ (|={Set.univ}=> bigSep Finset.univ fun k : CI => iprop(∃ κ : ℕ, cellInv ER (xRd m) κ (cell c k)) : sProp 𝕄) from by
        rw [← bigSep_sep']
        exact (bigSep_mono fun k _ => (Rounds.body_intro ER (xRd m) (cell c k)).trans inv_alloc).trans (bigSep_fupd _ _)) $$ [Hv Hst] with Hinv
  · isplitl [Hv] <;> iassumption
  imodintro
  isplitl [Hinv]; · iexact Hinv
  iexact Hrest

/-! ## The tokens dealt to the devices that pay them -/

def peerEquiv (j : Fin 7) : Dev nD ≃ Dev nD := ⟨peer j, peer j, peer_peer j, peer_peer j⟩

/-- What stays with device `c`: the tokens of the duties IT pays. -/
def payToks (c : Dev nD) : sProp 𝕄 :=
  iprop((bigSep Finset.univ fun j : Fin 7 => dutyTok ER (barCell (peer j c)) 0 j)
    ∗ (bigSep Finset.univ fun q : Fin 6 => bigSep Finset.univ fun j : Fin 7 => dutyTok ER (sendCell c q j) 0 0)
    ∗ bigSep Finset.univ fun q : Fin 6 => bigSep Finset.univ fun j : Fin 7 => dutyTok ER (recvCell (peer j c) q j) 0 0)

omit [FloatOps F] in
/-- A family indexed by device and mask, each member moved to the partner at its mask. -/
theorem bigSep_swap (Φ : Dev nD → Fin 7 → sProp 𝕄) :
    (bigSep Finset.univ fun c => bigSep Finset.univ fun j => Φ c j) = bigSep Finset.univ fun c => bigSep Finset.univ fun j => Φ (peer j c) j := by
  rw [bigSep_univ_comm, bigSep_univ_comm (fun c j => Φ (peer j c) j)]
  exact bigSep_congr fun j _ => bigSep_univ_equiv (peerEquiv j) fun c => Φ c j

theorem toks_around : (bigSep Finset.univ fun c : Dev nD => (toks c : sProp 𝕄)) = bigSep Finset.univ fun c : Dev nD => payToks c := by
  unfold toks payToks
  rw [bigSep_sep', bigSep_sep', bigSep_sep', bigSep_sep', bigSep_swap (fun c j => dutyTok ER (barCell c) 0 j),
    bigSep_univ_comm (fun (c : Dev nD) (q : Fin 6) => bigSep Finset.univ fun j : Fin 7 => (dutyTok ER (recvCell c q j) 0 0 : sProp 𝕄)),
    bigSep_univ_comm (fun (c : Dev nD) (q : Fin 6) => bigSep Finset.univ fun j : Fin 7 => (dutyTok ER (recvCell (peer j c) q j) 0 0 : sProp 𝕄)),
    bigSep_congr (s := Finset.univ) (fun (q : Fin 6) _ => bigSep_swap fun c j => (dutyTok ER (recvCell c q j) 0 0 : sProp 𝕄))]

theorem ghost_intro (K : Dev nD × CI → ℕ) (c : Dev nD) : iprop(recs m K ∗ (poss c ∗ payToks c)) ⊢ G' m c := by
  unfold poss payToks G' ghost roundTok
  rw [bigSep_CI, bigSep_OI]
  simp only [lsep_order, lsep_sep, bigSep_sep']
  iintro ⟨#HR, ⟨HaB, HaS, HaV⟩, HtB, HtS, HtV⟩
  iexists K
  isplitr; · iexact HR
  isplitl [HaB]; · iexact HaB
  isplitl [HtB]; · iexact HtB
  isplitl [HtS HtV]
  · isplitl [HtS]; · iexact HtS
    iexact HtV
  isplitl [HaS]; · iexact HaS
  iexact HaV

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (BI.sep_mono (BI.bigSep_of_persistent S R) (BI.Entails.refl (bigSep S Φ))).trans
    (((Entails.of_eq (bigSep_sep' S (fun _ => R) Φ).symm : iprop((bigSep S fun _ => R) ∗ bigSep S Φ) ⊢ _)).trans (bigSep_mono h))

theorem regroup :
    (bigSep Finset.univ fun c : Dev nD => iprop((bigSep Finset.univ fun k : CI => iprop(∃ κ : ℕ, cellInv ER (xRd m) κ (cell c k)))
          ∗ (bigSep Finset.univ fun k : CI => reached ER (cell c k) 0) ∗ poss c ∗ toks c) : sProp 𝕄)
      ⊢ bigSep Finset.univ (G' m) := by
  rw [bigSep_sep', bigSep_sep', bigSep_sep', ← bigSep_univ_prod (fun p : Dev nD × CI => iprop(∃ κ : ℕ, cellInv ER (xRd m) κ (cell p.1 p.2))),
    ← bigSep_univ_prod (fun p : Dev nD × CI => (reached ER (cell p.1 p.2) 0 : sProp 𝕄)), toks_around]
  iintro ⟨HI, #HR, Hat, Htk⟩
  ihave HK := (BI.bigSep_exists_pi Finset.univ (fun (p : Dev nD × CI) (κ : ℕ) => (cellInv ER (xRd m) κ (cell p.1 p.2) : sProp 𝕄))) $$ HI
  icases HK with ⟨%K, #HI⟩
  iapply (bigSep_with_persistent (R := recs m K) fun c _ => ghost_intro m K c)
  isplitr
  · unfold recs; rw [bigSep_sep']
    isplitl; · iexact HI
    iexact HR
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem credSig (c : Dev nD) : ∀ js, (Pipeline.launchCred (fun d => oSig d js) c : sProp 𝕄) ⊢ cred (tallyAt (barCell c) () js.length)
  | [] => by
    show (Pipeline.launchCred (fun _ => 0) c : sProp 𝕄) ⊢ cred (tallyAt (barCell c) () 0)
    rw [Pipeline.launchCred_zero, tallyAt_zero, cred_zero]
  | j :: js => by
    show (Pipeline.launchCred (fun d => oSig d js + tallyAt (barCell (peer j d)) () 1) c : sProp 𝕄) ⊢ cred (tallyAt (barCell c) () (js.length + 1))
    rw [Pipeline.launchCred_add, ← tallyAt_add]
    exact (BI.sep_mono (credSig c js) (Pipeline.launchCred_tallyAt (.reg barS) (peer j) (peer j) (peer_peer j) (peer_peer j) () 1 c)).trans (cred_add _ _).2

omit [FloatOps F] in
theorem credRound (c : Dev nD) (q : Fin 6) : ∀ js, (Pipeline.launchCred (fun d => oRound d q js) c : sProp 𝕄) ⊢ lsep js fun j => cred (tallyAt (recvCell c q j) () N)
  | [] => by
    show (Pipeline.launchCred (fun _ => 0) c : sProp 𝕄) ⊢ iprop(emp)
    rw [Pipeline.launchCred_zero]
  | j :: js => by
    show (Pipeline.launchCred (fun d => oRound d q js + tallyAt (recvCell (peer j d) q j) () N) c : sProp 𝕄) ⊢ iprop(cred (tallyAt (recvCell c q j) () N) ∗ lsep js fun j => cred (tallyAt (recvCell c q j) () N))
    rw [Pipeline.launchCred_add]
    have h1 := credRound c q js
    have h2 := Pipeline.launchCred_tallyAt (τ := τ) (U := UU) (Name := ℕ) (Lvl := ℕ) (Val := Elt F) (.dma (rsem q j)) (peer j) (peer j) (peer_peer j) (peer_peer j) () N c
    iintro ⟨H1, H2⟩
    isplitl [H2]
    · iapply h2; iexact H2
    iapply h1; iexact H1

theorem creds (c : Dev nD) :
    (Pipeline.launchCred O₀ c : sProp 𝕄) ⊢ iprop(cred (tallyAt (barCell c) () 7) ∗ bigSep Finset.univ fun q : Fin 6 => roundCred c q) := by
  show (Pipeline.launchCred (fun d => ((((((0 : CellTallies nD τ sig Unit) + oRound d (rd (lay3 0) 1) order) + oRound d (rd (lay3 0) 0) order)
    + oRound d (rd (lay3 1) 1) order) + oRound d (rd (lay3 1) 0) order) + oRound d (rd (lay3 2) 1) order + oRound d (rd (lay3 2) 0) order) + oSig d order) c : sProp 𝕄) ⊢ _
  rw [bigSep_rounds]
  simp only [Pipeline.launchCred_add]
  unfold roundCred
  iintro ⟨⟨⟨⟨⟨⟨⟨-, H21⟩, H20⟩, H11⟩, H10⟩, H01⟩, H00⟩, HB⟩
  isplitl [HB]; · iapply (credSig c order); iexact HB
  isplitl [H00]; · iapply (credRound c (rd 0 0) order); iexact H00
  isplitl [H01]; · iapply (credRound c (rd 0 1) order); iexact H01
  isplitl [H10]; · iapply (credRound c (rd 1 0) order); iexact H10
  isplitl [H11]; · iapply (credRound c (rd 1 1) order); iexact H11
  isplitl [H20]; · iapply (credRound c (rd 2 0) order); iexact H20
  iapply (credRound c (rd 2 1) order); iexact H21

/-! ## The landing slots -/

omit [FloatOps F] in
theorem free_acc (c : Dev nD) (b : Ref sig .tc) (M : Memref sig .tc .vmem S128x128 .bf16) (hl : M.view.loc (c : Thread nD τ) = (c : Thread nD τ).loc b)
    (hs : M.view.set = Finset.univ) : (free M c : sProp 𝕄) = iprop(∃ f : Buf (Elt F) (M.view.loc (c : Thread nD τ)), M.view.loc (c : Thread nD τ) ↦{fullShare} f) := by
  unfold free; rw [hs]

/-- The elements of a slot: those whose first coordinate is the slot's number. -/
theorem mem_slot (q : Fin 6) (j : Fin 7) (i : S42x128x128.Idx) : i ∈ (slot q j).view.set ↔ (i 0).val = slotNo q j := by
  rw [show (slot q j).view.set = (rM.slice (slotRect q j) (fun _ => rfl)).view.set from Memref.set_view_squeeze _ squeezes_S1x128x128_S128x128]
  rw [show (rM.slice (slotRect q j) (fun _ => rfl)).view.set = (slotRect q j).set from View.set_slice_whole _ _]
  rw [Rect.mem_set_unit]
  constructor
  · intro h
    have := h 0
    have h1 : slotNo q j ≤ (i 0).val := this.1
    have h2 : (i 0).val < slotNo q j + 1 := this.2
    omega
  · intro h a
    fin_cases a
    · exact ⟨le_of_eq h.symm, by show (i 0).val < slotNo q j + 1; omega⟩
    · exact ⟨Nat.zero_le _, by show (i 1).val < 0 + 128; have := (i 1).isLt; exact (Nat.zero_add 128).symm ▸ this⟩
    · exact ⟨Nat.zero_le _, by show (i 2).val < 0 + 128; have := (i 2).isLt; exact (Nat.zero_add 128).symm ▸ this⟩

/-- The slots by mask and round. -/
def slotI (c : Dev nD) (b : Fin 7 × Fin 6) : Finset (Idx ((c : Thread nD τ).loc cc0_scratch2)) := (slot b.2 b.1).view.set

theorem slotI_disj (c : Dev nD) : ∀ b b', b ≠ b' → Disjoint (slotI c b) (slotI c b') := by
  rintro ⟨j, q⟩ ⟨j', q'⟩ hne
  refine Finset.disjoint_left.mpr fun i h h' => hne ?_
  have e := ((mem_slot q j i).mp h).symm.trans ((mem_slot q' j' i).mp h')
  exact Prod.ext (by rw [← jOf_slot q j, e, jOf_slot]) (by rw [← qOf_slot q j, e, qOf_slot])
theorem slotI_cover (c : Dev nD) : Finset.univ.biUnion (slotI c) = Finset.univ := by
  refine Finset.eq_univ_of_forall fun (i : S42x128x128.Idx) => Finset.mem_biUnion.mpr ⟨(jOf (i 0).val, qOf (i 0).val), Finset.mem_univ _, (mem_slot _ _ i).mpr ?_⟩
  have h : (i 0).val < 42 := (i 0).isLt
  show (i 0).val = (i 0).val / 7 % 6 * 7 + (i 0).val % 7
  omega

omit [FloatOps F] in
theorem slots_eq (c : Dev nD) (Φ : Fin 7 → Fin 6 → sProp 𝕄) :
    (bigSep Finset.univ fun b : Fin 7 × Fin 6 => Φ b.1 b.2) = lsep order fun j => bigSep Finset.univ fun q : Fin 6 => Φ j q := by
  rw [bigSep_univ_prod, lsep_order]

omit [FloatOps F] in
theorem slots_split (c : Dev nD) (f : Buf (Elt F) ((c : Thread nD τ).loc cc0_scratch2)) :
    (((c : Thread nD τ).loc cc0_scratch2) ↦{fullShare} f : sProp 𝕄) ⊢ lsep order fun j => bigSep Finset.univ fun q : Fin 6 => free (slot q j) c := by
  rw [Ring.pointsTo_blocks (slotI c) (slotI_disj c) (slotI_cover c), ← slots_eq c fun j q => free (slot q j) c]
  refine bigSep_mono fun b _ => ?_
  have h : ((((c : Thread nD τ).loc cc0_scratch2) ↦[slotI c b]{fullShare} f : sProp 𝕄)) ⊢ free (slot b.2 b.1) c := by
    unfold free; iintro H; iexists f; iexact H
  exact h

omit [FloatOps F] in
theorem slots_join (c : Dev nD) (f₀ : Buf (Elt F) ((c : Thread nD τ).loc cc0_scratch2)) :
    (lsep order fun j => bigSep Finset.univ fun q : Fin 6 => (free (slot q j) c : sProp 𝕄)) ⊢ iprop(∃ f : Buf (Elt F) ((c : Thread nD τ).loc cc0_scratch2), ((c : Thread nD τ).loc cc0_scratch2) ↦{fullShare} f) := by
  rw [← slots_eq c fun j q => (free (slot q j) c : sProp 𝕄)]
  refine BI.Entails.trans ?_ (Ring.pointsTo_blocks_join_exists (slotI c) (slotI_disj c) (slotI_cover c) f₀)
  exact bigSep_mono fun b _ => BI.Entails.refl _

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  rw [free_acc c cc0_scratch0 (accM 0) rfl (View.set_whole _), free_acc c cc0_scratch1 (accM 1) rfl (View.set_whole _)]
  iintro ⟨Hs, -, ⟨%f0, H0⟩, ⟨%f1, H1⟩, ⟨%f2, H2⟩⟩
  isplitl [Hs]; · iexact Hs
  isplitl [H0]; · (iexists f0; iexact H0)
  isplitl [H1]; · (iexists f1; iexact H1)
  iapply (slots_split c f2); iexact H2

theorem rounds_post (c : Dev nD) : (bigSep Finset.univ fun q : Fin 6 => roundPost (F := F) c q)
    ⊢ iprop((lsep order fun j => bigSep Finset.univ fun q : Fin 6 => free (slot q j) c) ∗ Pipeline.ownSems0 osem c) := by
  unfold roundPost Pipeline.ownSems0
  rw [bigSep_OI]
  simp only [← lsep_order, bigSep_sep']
  rw [bigSep_univ_comm (fun (j : Fin 7) (q : Fin 6) => (free (slot q j) c : sProp 𝕄))]
  exact BI.Entails.refl _

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, unscopedSems0_eq]
  unfold Φ₁
  rw [free_acc c cc0_scratch0 (accM 0) rfl (View.set_whole _), free_acc c cc0_scratch1 (accM 1) rfl (View.set_whole _)]
  iintro ⟨⟨%f0, H0⟩, ⟨%f1, H1⟩, Hr, HzB⟩
  ihave Hr' := (rounds_post c) $$ Hr
  icases Hr' with ⟨Hsl, Hos⟩
  isplitl [HzB]; · iexact HzB
  isplitl [Hos]; · iexact Hos
  isplitl [H0]; · (iexists f0; iexact H0)
  isplitl [H1]; · (iexists f1; iexact H1)
  iapply (slots_join c (m ((c : Thread nD τ).loc cc0_scratch2))); iexact Hsl

theorem share_eq (c : Dev nD) (w : Fin cfg0.W) : (dats m 0 c).share w = fullShare := by unfold Dat.share; split <;> rfl

theorem stage_waits (c : Dev nD) : (levAts L lv : sProp 𝕄) ⊢ Pipeline.cellsWaits cfgs (dats m) () 0 c :=
  Pipeline.cellsWaits_intro cfgs (dats m) () 0 c fun w s t =>
    mayWait c _ (lv_stage c _ (stage_val w s)) (by
      rcases t with ⟨_ | _, ht⟩
      · exact above_O₀ c
      · exact above_zero 0)

/-! ## The run -/

def finalA (c : Dev nD) (w : Fin cfg0.W) : Buf (Elt F) ((cfg0.win w).arr.view.loc (c : Thread nD τ)) := (dats m 0 c).arrAt w cfg0.N

/-- From any memory with zero counters, every weakly fair execution of @main on the eight devices terminates, with each
    window's array at its final contents and every semaphore counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := stage_waits m)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Mlp

end
-- ==== Proof.Value.lean ====
/-
The value: at the extended reals the kernel's result on device `c` is the block of columns `128 c … 128 c + 127` of the
reference's result. A layer adds eight partial products, each over 128 of the 1024 contracted positions, and then the
products of two halves of the 256 hidden positions; sums over the reals may be regrouped so.
-/
module

public import proofs.«01_k».proof.Proof.Launch
public import proofs.«01_k».proof.Proof.Gen.ReferenceIdeal.Run
public import Idealize.ShloMosaic.Lib.MatmulPlain
public import Idealize.ShloMosaic.Lib.KernelVsHost
public import Idealize.ShloMosaic.Lib.Pointwise
public import Idealize.ShloMosaic.Lib.Pipeline.ValueKit
public import Idealize.ShloMosaic.Lib.Layout

@[expose] public section

set_option maxRecDepth 16384

noncomputable section

namespace Cert.Mlp

open Cert.KernelIdeal Cert.KernelIdeal.Gen
open Idealize.ShloMosaic
open Idealize.ShloMosaic.TcCoe
open scoped BigOperators

/-! ## The final arrays -/

section Arrays

variable {F : FTy → Type} [FloatOps F]
variable (m : (ℓ : Loc nD τ sig) → Buf (Elt F) ℓ)

/-- A staged input's array ends as it began. -/
theorem finalA_in (c : Dev nD) (w : Fin cfg0.W) (h : (cfg0.win w).isOut = false) :
    finalA m c w = m ((cfg0.win w).arr.view.loc (c : Thread nD τ)) :=
  (dats m 0 c).arrAt_in w h _

/-- The output's array ends holding the result. -/
theorem finalA_out (c : Dev nD) : finalA m c (7 : Fin 8) = outAt m c :=
  (dats m 0 c).arrAt_eq_of_after_last 7 t0_0 (by decide +kernel) (outAt m c) fun j => rfl

/-- The staged activations are the whole argument: the call's one block is the array. -/
theorem xB_eq (c : Dev nD) : xB m c = m ((c : Thread nD τ).loc main_arg0) := by
  show (win0_0.blk t0_0).view.read (Elt F) _ = _
  funext i; blk_simp
  have hz : ∀ a, win0_0.index t0_0 a = 0 := by decide +kernel
  blk_ext <;> (rw [hz, Nat.zero_mul, Nat.zero_add])
/-- Layer 0's staged first weight is the whole argument. -/
theorem wiB_eq0 (c : Dev nD) : wiB m 0 c = m ((c : Thread nD τ).loc main_arg1) := by
  show (win0_1.blk t0_0).view.read (Elt F) _ = _
  funext i; blk_simp
  have hz : ∀ a, win0_1.index t0_0 a = 0 := by decide +kernel
  blk_ext <;> (rw [hz, Nat.zero_mul, Nat.zero_add])
/-- Layer 0's staged second weight is the whole argument. -/
theorem woB_eq0 (c : Dev nD) : woB m 0 c = m ((c : Thread nD τ).loc main_arg2) := by
  show (win0_2.blk t0_0).view.read (Elt F) _ = _
  funext i; blk_simp
  have hz : ∀ a, win0_2.index t0_0 a = 0 := by decide +kernel
  blk_ext <;> (rw [hz, Nat.zero_mul, Nat.zero_add])
/-- Layer 1's staged first weight is the whole argument. -/
theorem wiB_eq1 (c : Dev nD) : wiB m 1 c = m ((c : Thread nD τ).loc main_arg3) := by
  show (win0_3.blk t0_0).view.read (Elt F) _ = _
  funext i; blk_simp
  have hz : ∀ a, win0_3.index t0_0 a = 0 := by decide +kernel
  blk_ext <;> (rw [hz, Nat.zero_mul, Nat.zero_add])
/-- Layer 1's staged second weight is the whole argument. -/
theorem woB_eq1 (c : Dev nD) : woB m 1 c = m ((c : Thread nD τ).loc main_arg4) := by
  show (win0_4.blk t0_0).view.read (Elt F) _ = _
  funext i; blk_simp
  have hz : ∀ a, win0_4.index t0_0 a = 0 := by decide +kernel
  blk_ext <;> (rw [hz, Nat.zero_mul, Nat.zero_add])
/-- Layer 2's staged first weight is the whole argument. -/
theorem wiB_eq2 (c : Dev nD) : wiB m 2 c = m ((c : Thread nD τ).loc main_arg5) := by
  show (win0_5.blk t0_0).view.read (Elt F) _ = _
  funext i; blk_simp
  have hz : ∀ a, win0_5.index t0_0 a = 0 := by decide +kernel
  blk_ext <;> (rw [hz, Nat.zero_mul, Nat.zero_add])
/-- Layer 2's staged second weight is the whole argument. -/
theorem woB_eq2 (c : Dev nD) : woB m 2 c = m ((c : Thread nD τ).loc main_arg6) := by
  show (win0_6.blk t0_0).view.read (Elt F) _ = _
  funext i; blk_simp
  have hz : ∀ a, win0_6.index t0_0 a = 0 := by decide +kernel
  blk_ext <;> (rw [hz, Nat.zero_mul, Nat.zero_add])

end Arrays

/-! ## The kernel's products at an index -/

/-- The products' accumulators start at zero. -/
theorem zero_at (i : S128x128.Idx) : (constant (F := Ideal) S128x128 .f32 0x00000000#32) i = (0 : EReal) := Ideal.ofBits_zero_f32

/-- A partial product is the sum over this device's 128 contracted positions; its roundings are the identity over the reals. -/
theorem accV_apply (x : FVec Ideal S128x128 .bf16) (w : Vec Ideal S128x128 .f32) (r e : Fin 128) :
    accV x w (ValueIdx.ix2 r e) = ∑ k : Fin 128, (x (ValueIdx.ix2 r k) : EReal) * w (ValueIdx.ix2 k e) := by
  unfold accV k0_pay16
  simp only [shapeCast_self]
  refine (Ideal.matmul_plain_apply (φ₁ := .bf16) (φ₂ := .bf16) none x w (constant S128x128 .f32 0x00000000#32) r e).trans ?_
  rw [zero_at, zero_add]

/-- A half's product with the second weight: the sum over its 128 hidden positions, each clipped below at zero. -/
theorem outV_apply (t : FVec Ideal S128x128 .f32) (w : Vec Ideal S128x128 .f32) (r k : Fin 128) :
    outV t w (ValueIdx.ix2 r k) = ∑ e : Fin 128, max (t (ValueIdx.ix2 r e) : EReal) 0 * w (ValueIdx.ix2 e k) := by
  unfold outV k0_pay34
  simp only [shapeCast_self]
  refine (Ideal.matmul_plain_apply (φ₁ := .bf16) (φ₂ := .bf16) none _ w (constant S128x128 .f32 0x00000000#32) r k).trans ?_
  rw [zero_at, zero_add]
  refine Finset.sum_congr rfl fun e _ => ?_
  have h0 : (Scalar.ofBits .f32 0x00000000#32 : Ideal .f32) = (0 : EReal) := Ideal.ofBits_zero_f32
  rw [← h0]
  rfl

/-! ## The reference's layer at an index -/

/-- One layer of the reference on the whole arrays. -/
def refLay (Y : FVec Ideal Cert.ReferenceIdeal.S128x1024 .f32) (W1 : FVec Ideal Cert.ReferenceIdeal.S1024x256 .f32)
    (W2 : FVec Ideal Cert.ReferenceIdeal.S256x1024 .f32) : FVec Ideal Cert.ReferenceIdeal.S128x1024 .f32 :=
  Host.dotGeneral Cert.ReferenceIdeal.dot_S128x256_S256x1024_S128x1024_1_0_0_1_n_n none
    (maximumf (Host.dotGeneral Cert.ReferenceIdeal.dot_S128x1024_S1024x256_S128x256_1_0_0_1_n_n none Y W1)
      (broadcastInDim Cert.ReferenceIdeal.S128x256 ![] Cert.ReferenceIdeal.Facts₀.bcast_S_S128x256 (constant Cert.ReferenceIdeal.S_ .f32 0x00000000#32))) W2

/-- A host product is the sum over the contracted positions. -/
theorem dot_apply {M K N : ℕ} (x : FVec Ideal ⟨2, ![M, K]⟩ .f32) (w : FVec Ideal ⟨2, ![K, N]⟩ .f32) (r : Fin M) (c : Fin N) :
    Host.dotGeneral (DotDims.plain M K N) none x w (ValueIdx.ix2 r c)
      = ∑ k : Fin K, (x (ValueIdx.ix2 r k) : EReal) * w (ValueIdx.ix2 k c) := by
  rw [← matmul_zero_eq_dotGeneral]
  refine (Ideal.matmul_plain_apply none x w _ r c).trans ?_
  rw [show (constant (F := Ideal) ⟨2, ![M, N]⟩ .f32 0x00000000#32) (ValueIdx.ix2 r c) = (0 : EReal) from Ideal.ofBits_zero_f32, zero_add]

/-- The reference's layer as two nested sums. -/
theorem refLay_apply (Y : FVec Ideal Cert.ReferenceIdeal.S128x1024 .f32) (W1 : FVec Ideal Cert.ReferenceIdeal.S1024x256 .f32)
    (W2 : FVec Ideal Cert.ReferenceIdeal.S256x1024 .f32) (r : Fin 128) (k : Fin 1024) :
    refLay Y W1 W2 (ValueIdx.ix2 r k)
      = ∑ e : Fin 256, max (∑ n : Fin 1024, (Y (ValueIdx.ix2 r n) : EReal) * W1 (ValueIdx.ix2 n e)) 0 * W2 (ValueIdx.ix2 e k) := by
  refine (dot_apply _ W2 r k).trans (Finset.sum_congr rfl fun e _ => ?_)
  rw [← dot_apply Y W1 r e, ← Ideal.ofBits_zero_f32]
  rfl

/-! ## A layer -/

/-- Position `t` of tile `d`, of tiles of 128. -/
abbrev at8 (d : Fin 8) (t : Fin 128) : Fin 1024 := ⟨d.val * 128 + t.val, by omega⟩
/-- Position `t` of half `h`, of halves of 128. -/
abbrev at2 (h : Fin 2) (t : Fin 128) : Fin 256 := ⟨h.val * 128 + t.val, by omega⟩

/-- The device whose number is `c`'s combined bit by bit with `d`'s. -/
def bits (c d : Fin 8) : Fin 8 := ⟨c.val ^^^ d.val, by revert d; revert c; decide⟩

/-- Combining twice gives the device back; -/
theorem bits_bits (c d : Fin 8) : bits c (bits c d) = d := by revert d; revert c; decide
/-- combining with zero changes nothing; -/
theorem bits_zero (c : Fin 8) : bits c 0 = c := by revert c; decide
/-- and combining with `j + 1` is partner `j`. -/
theorem bits_succ (c : Fin 8) (j : Fin 7) : bits c j.succ = peer j c := by revert j; revert c; decide

/-- A device and its seven partners are the eight devices. -/
theorem sum_peers (f : Dev nD → EReal) (c : Dev nD) :
    order.foldl (fun t j => t + f (peer j c)) (f c) = ∑ d : Fin 8, f d := by
  have he : ∑ d : Fin 8, f d = ∑ d : Fin 8, f (bits c d) :=
    (Equiv.sum_comp (Function.Involutive.toPerm (bits c) (bits_bits c)) f).symm
  rw [he, Fin.sum_univ_succ, bits_zero]
  simp only [bits_succ, Fin.sum_univ_seven, order, List.foldl]
  ac_rfl

variable (m : (ℓ : Loc nD τ sig) → Buf (Elt Ideal) ℓ)

/-- The running sum, complete, is the sum of all eight devices' partial products, whatever order device `c` adds them in. -/
theorem tot_apply (X : Dev nD → FVec Ideal S128x128 .bf16) (l : Fin 3) (h : Fin 2) (c : Dev nD) (i : S128x128.Idx) :
    tot m X l h c i = ∑ d : Fin 8, (part m X l h d i : EReal) := by
  rw [← sum_peers (fun d => (part m X l h d i : EReal)) c]
  rfl

/-- A half of the first weight block is its columns from `128 h` on; -/
theorem wiH_apply (l : Fin 3) (h : Fin 2) (c : Dev nD) (k e : Fin 128) :
    wiH m l h c (ValueIdx.ix2 k e) = wiB m l c (ValueIdx.ix2 k (at2 h e)) := match h with
  | 0 => congrArg (wiB m l c) (funext fun a => Fin.ext (by
      match a with
      | 0 => show 0 + 1 * k.val = k.val; omega
      | 1 => show 0 + 1 * e.val = 0 * 128 + e.val; omega))
  | 1 => congrArg (wiB m l c) (funext fun a => Fin.ext (by
      match a with
      | 0 => show 0 + 1 * k.val = k.val; omega
      | 1 => show 128 + 1 * e.val = 1 * 128 + e.val; omega))

/-- a half of the second weight block is its rows from `128 h` on. -/
theorem woH_apply (l : Fin 3) (h : Fin 2) (c : Dev nD) (e k : Fin 128) :
    woH m l h c (ValueIdx.ix2 e k) = woB m l c (ValueIdx.ix2 (at2 h e) k) := match h with
  | 0 => congrArg (woB m l c) (funext fun a => Fin.ext (by
      match a with
      | 0 => show 0 + 1 * e.val = 0 * 128 + e.val; omega
      | 1 => show 0 + 1 * k.val = k.val; omega))
  | 1 => congrArg (woB m l c) (funext fun a => Fin.ext (by
      match a with
      | 0 => show 128 + 1 * e.val = 1 * 128 + e.val; omega
      | 1 => show 0 + 1 * k.val = k.val; omega))

/-- If every device's activations are its columns of `Y`, its layer's output is its columns of the reference's. -/
theorem lay_block (X : Dev nD → FVec Ideal S128x128 .bf16) (l : Fin 3)
    (Y : FVec Ideal Cert.ReferenceIdeal.S128x1024 .f32) (W1 : FVec Ideal Cert.ReferenceIdeal.S1024x256 .f32)
    (W2 : FVec Ideal Cert.ReferenceIdeal.S256x1024 .f32)
    (hX : ∀ c r k, (X c (ValueIdx.ix2 r k) : EReal) = Y (ValueIdx.ix2 r (at8 c k)))
    (h1 : ∀ c k e, (wiB m l c (ValueIdx.ix2 k e) : EReal) = W1 (ValueIdx.ix2 (at8 c k) e))
    (h2 : ∀ c e k, (woB m l c (ValueIdx.ix2 e k) : EReal) = W2 (ValueIdx.ix2 e (at8 c k))) (c : Dev nD) (r k : Fin 128) :
    (lay m X l c (ValueIdx.ix2 r k) : EReal) = refLay Y W1 W2 (ValueIdx.ix2 r (at8 c k)) := by
  have ht : ∀ (h : Fin 2) (e : Fin 128), (tot m X l h c (ValueIdx.ix2 r e) : EReal)
      = ∑ n : Fin 1024, (Y (ValueIdx.ix2 r n) : EReal) * W1 (ValueIdx.ix2 n (at2 h e)) := fun h e => by
    rw [tot_apply, Fin.sum_univ_tiles 8 128 (rfl : 8 * 128 = 1024)]
    refine Finset.sum_congr rfl fun d _ => (accV_apply (X d) (wiH m l h d) r e).trans (Finset.sum_congr rfl fun t _ => ?_)
    rw [hX, wiH_apply, h1]
  have ho : ∀ h : Fin 2, (outV (tot m X l h c) (woH m l h c) (ValueIdx.ix2 r k) : EReal)
      = ∑ e : Fin 128, max (∑ n : Fin 1024, (Y (ValueIdx.ix2 r n) : EReal) * W1 (ValueIdx.ix2 n (at2 h e))) 0
          * W2 (ValueIdx.ix2 (at2 h e) (at8 c k)) := fun h => by
    rw [outV_apply]
    refine Finset.sum_congr rfl fun e _ => ?_
    rw [ht, woH_apply, h2]
  rw [refLay_apply, Fin.sum_univ_tiles 2 128 (rfl : 2 * 128 = 256), Fin.sum_univ_two, ← ho 0, ← ho 1]
  rfl

/-- The reference's three layers. -/
def refOut (x : FVec Ideal Cert.ReferenceIdeal.S128x1024 .f32) (W1 : Fin 3 → FVec Ideal Cert.ReferenceIdeal.S1024x256 .f32)
    (W2 : Fin 3 → FVec Ideal Cert.ReferenceIdeal.S256x1024 .f32) : FVec Ideal Cert.ReferenceIdeal.S128x1024 .f32 :=
  refLay (refLay (refLay x (W1 0) (W2 0)) (W1 1) (W2 1)) (W1 2) (W2 2)

/-- THE VALUE: if every device's arguments are its blocks of the reference's, so is its result. -/
theorem outAt_block (x : FVec Ideal Cert.ReferenceIdeal.S128x1024 .f32) (W1 : Fin 3 → FVec Ideal Cert.ReferenceIdeal.S1024x256 .f32)
    (W2 : Fin 3 → FVec Ideal Cert.ReferenceIdeal.S256x1024 .f32)
    (hx : ∀ c, xB m c = Layout.block ⟨2, ![128, 128]⟩ ⟨2, ![128, 1024]⟩ 1 8 c x)
    (h1 : ∀ l c, wiB m l c = Layout.block ⟨2, ![128, 256]⟩ ⟨2, ![1024, 256]⟩ 0 8 c (W1 l))
    (h2 : ∀ l c, woB m l c = Layout.block ⟨2, ![256, 128]⟩ ⟨2, ![256, 1024]⟩ 1 8 c (W2 l)) (c : Dev nD) :
    outAt m c = Layout.block ⟨2, ![128, 128]⟩ ⟨2, ![128, 1024]⟩ 1 8 c (refOut x W1 W2) := by
  have hcol : ∀ (c : Dev nD) {M : ℕ} (h : Layout.Tiles ⟨2, ![M, 128]⟩ ⟨2, ![M, 1024]⟩ 1 8) (r : Fin M) (k : Fin 128),
      h.idx c (ValueIdx.ix2 r k) = ValueIdx.ix2 r (at8 c k) := fun c M h r k => by
    funext a; apply Fin.ext
    match a with
    | 0 => rfl
    | 1 => rfl
  have hrow : ∀ (c : Dev nD) (h : Layout.Tiles ⟨2, ![128, 256]⟩ ⟨2, ![1024, 256]⟩ 0 8) (k : Fin 128) (e : Fin 256),
      h.idx c (ValueIdx.ix2 k e) = ValueIdx.ix2 (at8 c k) e := fun c h k e => by
    funext a; apply Fin.ext
    match a with
    | 0 => rfl
    | 1 => rfl
  have g1 : ∀ l c k e, (wiB m l c (ValueIdx.ix2 k e) : EReal) = W1 l (ValueIdx.ix2 (at8 c k) e) := fun l c k e => by
    rw [h1, Layout.block_apply, hrow]
  have g2 : ∀ l c e k, (woB m l c (ValueIdx.ix2 e k) : EReal) = W2 l (ValueIdx.ix2 e (at8 c k)) := fun l c e k => by
    rw [h2, Layout.block_apply, hcol]
  have gx : ∀ c r k, (X0 m c (ValueIdx.ix2 r k) : EReal) = x (ValueIdx.ix2 r (at8 c k)) := fun c r k => by
    unfold X0 k0_pay2
    rw [shapeCast_self, hx]
    exact congrArg x (hcol c _ r k)
  have y1 := lay_block m (X0 m) 0 x (W1 0) (W2 0) gx (g1 0) (g2 0)
  have y2 := lay_block m (X1 m) 1 _ (W1 1) (W2 1) y1 (g1 1) (g2 1)
  have y3 := lay_block m (X2 m) 2 _ (W1 2) (W2 2) y2 (g1 2) (g2 2)
  funext i
  obtain ⟨r, k, rfl⟩ : ∃ r k, i = ValueIdx.ix2 r k := ⟨i 0, i 1, ValueIdx.eq_ix2 i⟩
  rw [Layout.block_apply, hcol]
  exact y3 c r k

end Cert.Mlp

end
-- ==== Proof.Claims.lean ====
/-
The claims: the run read at the arguments and the result, and the kernel's and the reference's results side by side.
-/
module

public import proofs.«01_k».proof.Proof.Value
public import proofs.«01_k».proof.Proof.Gen.Kernel
public import proofs.«01_k».proof.Defs

@[expose] public section

set_option maxRecDepth 16384

noncomputable section

namespace Cert.Mlp

open Idealize.ShloMosaic
open Idealize.ShloMosaic.TcCoe
open Idealize.SL.Sem

section AnyF

open Cert.KernelIdeal

variable {F : FTy → Type} [FloatOps F]
variable (m : (ℓ : Loc nD τ sig) → Buf (Elt F) ℓ) (ρ : Dev nD → PrngReg)

/-- Device `c`'s arguments are unchanged in the memory `s`. -/
abbrev Kept (s : (ℓ : Loc nD τ sig) → Buf (Elt F) ℓ) (c : Dev nD) : Prop :=
  s ((c : Thread nD τ).loc main_arg0) = m ((c : Thread nD τ).loc main_arg0)
  ∧ s ((c : Thread nD τ).loc main_arg1) = m ((c : Thread nD τ).loc main_arg1)
  ∧ s ((c : Thread nD τ).loc main_arg2) = m ((c : Thread nD τ).loc main_arg2)
  ∧ s ((c : Thread nD τ).loc main_arg3) = m ((c : Thread nD τ).loc main_arg3)
  ∧ s ((c : Thread nD τ).loc main_arg4) = m ((c : Thread nD τ).loc main_arg4)
  ∧ s ((c : Thread nD τ).loc main_arg5) = m ((c : Thread nD τ).loc main_arg5)
  ∧ s ((c : Thread nD τ).loc main_arg6) = m ((c : Thread nD τ).loc main_arg6)

/-- For any float values: @main runs, ends with every argument unchanged, the result `outAt`, and every counter zero. -/
theorem run_read : θ_run defs (onTc (τ := τ) (main (F := F))) ⟨m, fun _ => 0, ρ⟩
    (fun r => (∀ c : Dev nD, r.2.mem ((c : Thread nD τ).loc main_v1) = outAt m c ∧ Kept m r.2.mem c) ∧ r.2.sem = fun _ => 0) :=
  (θ_run defs _ _).mono (fun r h => ⟨fun c =>
    ⟨(h.1 c 7).trans (finalA_out m c), (h.1 c 0).trans (finalA_in m c 0 rfl), (h.1 c 1).trans (finalA_in m c 1 rfl),
      (h.1 c 2).trans (finalA_in m c 2 rfl), (h.1 c 3).trans (finalA_in m c 3 rfl), (h.1 c 4).trans (finalA_in m c 4 rfl),
      (h.1 c 5).trans (finalA_in m c 5 rfl), (h.1 c 6).trans (finalA_in m c 6 rfl)⟩, h.2⟩) (run_main m ρ)

end AnyF

/-! ## The two printings of the kernel are one program -/

section Same

variable {F : FTy → Type} [FloatOps F]

/-- Both printings have the same body at the kernel's one label, -/
theorem defs₀_eq : Cert.Kernel.defs₀ (F := F) = Cert.KernelIdeal.defs₀ (F := F) :=
  congrArg Defs.onTc (funext fun l => funext fun a => by
    match l, a with
    | 0, (t, s) => rfl
    | ⟨_ + 1, h⟩, _ => exact absurd h (Nat.not_lt.2 (Nat.le_add_left _ _)))

/-- hence the same body table with the pipeline's labels added. -/
theorem defs_eq : Cert.Kernel.defs (F := F) = Cert.KernelIdeal.defs (F := F) :=
  congrArg (Pipeline.defs Cert.KernelIdeal.pcfgs) defs₀_eq

end Same

/-! ## The claims -/

/-- The kernel runs, leaves its arguments unchanged and every counter at zero. -/
theorem frame_kernel : Cert.quiescent_Kernel := fun m ρ _ =>
  (congrArg (fun D => θ_run D (onTc (τ := Cert.KernelIdeal.τ) (Cert.KernelIdeal.main (F := Bits))) ⟨m, fun _ => 0, ρ⟩
      fun r => (∀ c : Dev Cert.KernelIdeal.nD, Kept m r.2.mem c) ∧ r.2.sem = fun _ => 0) defs_eq).mpr
    ((θ_run Cert.KernelIdeal.defs _ _).mono (fun _ h => ⟨fun c => (h.1 c).2, h.2⟩) (run_read (F := Bits) m ρ))

/-- So does the kernel over the reals. -/
theorem frame_kernelIdeal : Cert.quiescent_KernelIdeal := fun m ρ _ =>
  (θ_run Cert.KernelIdeal.defs _ _).mono (fun _ h => ⟨fun c => (h.1 c).2, h.2⟩) (run_read (F := Ideal) m ρ)

/-- So does the reference, which has no semaphore. -/
theorem frame_referenceIdeal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

/-- Every device's result is its block of columns of the reference's result. -/
theorem algebraic : Cert.algebraic_KernelIdeal_ReferenceIdeal := fun m g m' g' _ hb => by
  let a (b : Ref Cert.ReferenceIdeal.sig .tc) := m' (((0 : Dev Cert.ReferenceIdeal.nD) : Thread Cert.ReferenceIdeal.nD Cert.ReferenceIdeal.τ).loc b)
  let W1 : Fin 3 → FVec Ideal Cert.ReferenceIdeal.S1024x256 .f32 := fun l => match l with
    | 0 => a Cert.ReferenceIdeal.main_arg1
    | 1 => a Cert.ReferenceIdeal.main_arg3
    | 2 => a Cert.ReferenceIdeal.main_arg5
  let W2 : Fin 3 → FVec Ideal Cert.ReferenceIdeal.S256x1024 .f32 := fun l => match l with
    | 0 => a Cert.ReferenceIdeal.main_arg2
    | 1 => a Cert.ReferenceIdeal.main_arg4
    | 2 => a Cert.ReferenceIdeal.main_arg6
  have hv := outAt_block m (a Cert.ReferenceIdeal.main_arg0) W1 W2 (fun c => (xB_eq m c).trans (hb c).1)
    (fun l c => match l with
      | 0 => (wiB_eq0 m c).trans (hb c).2.1
      | 1 => (wiB_eq1 m c).trans (hb c).2.2.2.1
      | 2 => (wiB_eq2 m c).trans (hb c).2.2.2.2.2.1)
    (fun l c => match l with
      | 0 => (woB_eq0 m c).trans (hb c).2.2.1
      | 1 => (woB_eq1 m c).trans (hb c).2.2.2.2.1
      | 2 => (woB_eq2 m c).trans (hb c).2.2.2.2.2.2)
  exact ⟨refOut (a Cert.ReferenceIdeal.main_arg0) W1 W2,
    (θ_run Cert.KernelIdeal.defs _ _).mono (fun _ h c => ⟨(h.1 c).1.trans (hv c), (h.1 c).2⟩) (run_read (F := Ideal) m g),
    (θ_run Cert.ReferenceIdeal.defs _ _).mono (fun _ h => h 0) (Cert.ReferenceIdeal.Value.run m' g')⟩

end Cert.Mlp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Mlp.frame_kernel, Cert.Mlp.frame_kernelIdeal, Cert.Mlp.frame_referenceIdeal, trivial, Cert.Mlp.algebraic⟩

end Cert.Proof

end
